-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.bf16_pair.BufferStatement Cert.KernelIdeal.S16x8x2x256 Cert.KernelIdeal.S16x8x1x256
  ∧ IdealRules.bf16_pair.PackStatement Cert.KernelIdeal.S8x256
  ∧ IdealRules.bf16_pair.Statement Cert.KernelIdeal.S1x8x2x256 Cert.KernelIdeal.S1x8x1x256
  ∧ IdealRules.bf16_pair.Statement Cert.KernelIdeal.S1x1x2x256 Cert.KernelIdeal.S1x1x1x256
  ∧ IdealRules.bf16_pair.Statement Cert.KernelIdeal.S16x256 Cert.KernelIdeal.S8x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v241) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x256x2048 : Shape := ⟨3, ![6, 256, 2048]⟩
abbrev S16384x8x32 : Shape := ⟨3, ![16384, 8, 32]⟩
abbrev S16384x8x64 : Shape := ⟨3, ![16384, 8, 64]⟩
abbrev S16384x8x12 : Shape := ⟨3, ![16384, 8, 12]⟩
abbrev S16384x8 : Shape := ⟨2, ![16384, 8]⟩
abbrev S8x32x16384 : Shape := ⟨3, ![8, 32, 16384]⟩
abbrev S8x64x16384 : Shape := ⟨3, ![8, 64, 16384]⟩
abbrev S12x8x16384 : Shape := ⟨3, ![12, 8, 16384]⟩
abbrev S8x16384 : Shape := ⟨2, ![8, 16384]⟩
abbrev S1536x2048 : Shape := ⟨2, ![1536, 2048]⟩
abbrev S1536x16384 : Shape := ⟨2, ![1536, 16384]⟩
abbrev S8x32x256 : Shape := ⟨3, ![8, 32, 256]⟩
abbrev S8x64x256 : Shape := ⟨3, ![8, 64, 256]⟩
abbrev S12x8x256 : Shape := ⟨3, ![12, 8, 256]⟩
abbrev S8x256 : Shape := ⟨2, ![8, 256]⟩
abbrev S1536x256 : Shape := ⟨2, ![1536, 256]⟩
abbrev S16x8x256 : Shape := ⟨3, ![16, 8, 256]⟩
abbrev S2048x256 : Shape := ⟨2, ![2048, 256]⟩
abbrev S1x8x256 : Shape := ⟨3, ![1, 8, 256]⟩
abbrev S1x32x256 : Shape := ⟨3, ![1, 32, 256]⟩
abbrev S32x256 : Shape := ⟨2, ![32, 256]⟩
abbrev S1x1x256 : Shape := ⟨3, ![1, 1, 256]⟩
abbrev S1x256 : Shape := ⟨2, ![1, 256]⟩
abbrev S16x256 : Shape := ⟨2, ![16, 256]⟩

abbrev nBuf : Space → Nat
  | .hbm => 19
  | .vmem => 22
  | .smem => 0
  | _ => 0

abbrev bufTy : (tb : Table) → Fin (tcTables nBuf tb) → BufTy
  | .hbm, ⟨0, _⟩ => ⟨S6x256x2048, .bf16⟩
  | .hbm, ⟨1, _⟩ => ⟨S16384x8x32, .i8⟩
  | .hbm, ⟨2, _⟩ => ⟨S16384x8x64, .i8⟩
  | .hbm, ⟨3, _⟩ => ⟨S16384x8x12, .i8⟩
  | .hbm, ⟨4, _⟩ => ⟨S16384x8, .i16⟩
  | .hbm, ⟨5, _⟩ => ⟨S16384x8x32, .i8⟩
  | .hbm, ⟨6, _⟩ => ⟨S16384x8x64, .i8⟩
  | .hbm, ⟨7, _⟩ => ⟨S16384x8x12, .i8⟩
  | .hbm, ⟨8, _⟩ => ⟨S16384x8, .i16⟩
  | .hbm, ⟨9, _⟩ => ⟨S8x32x16384, .i8⟩
  | .hbm, ⟨10, _⟩ => ⟨S8x64x16384, .i8⟩
  | .hbm, ⟨11, _⟩ => ⟨S12x8x16384, .i8⟩
  | .hbm, ⟨12, _⟩ => ⟨S8x16384, .i16⟩
  | .hbm, ⟨13, _⟩ => ⟨S8x32x16384, .i8⟩
  | .hbm, ⟨14, _⟩ => ⟨S8x64x16384, .i8⟩
  | .hbm, ⟨15, _⟩ => ⟨S12x8x16384, .i8⟩
  | .hbm, ⟨16, _⟩ => ⟨S8x16384, .i16⟩
  | .hbm, ⟨17, _⟩ => ⟨S1536x2048, .bf16⟩
  | .hbm, ⟨18, _⟩ => ⟨S1536x16384, .bf16⟩
  | .local _ .vmem, ⟨0, _⟩ => ⟨S1536x2048, .bf16⟩
  | .local _ .vmem, ⟨1, _⟩ => ⟨S8x32x256, .i8⟩
  | .local _ .vmem, ⟨2, _⟩ => ⟨S8x32x256, .i8⟩
  | .local _ .vmem, ⟨3, _⟩ => ⟨S8x64x256, .i8⟩
  | .local _ .vmem, ⟨4, _⟩ => ⟨S8x64x256, .i8⟩
  | .local _ .vmem, ⟨5, _⟩ => ⟨S12x8x256, .i8⟩
  | .local _ .vmem, ⟨6, _⟩ => ⟨S12x8x256, .i8⟩
  | .local _ .vmem, ⟨7, _⟩ => ⟨S8x256, .i16⟩
  | .local _ .vmem, ⟨8, _⟩ => ⟨S8x256, .i16⟩
  | .local _ .vmem, ⟨9, _⟩ => ⟨S8x32x256, .i8⟩
  | .local _ .vmem, ⟨10, _⟩ => ⟨S8x32x256, .i8⟩
  | .local _ .vmem, ⟨11, _⟩ => ⟨S8x64x256, .i8⟩
  | .local _ .vmem, ⟨12, _⟩ => ⟨S8x64x256, .i8⟩
  | .local _ .vmem, ⟨13, _⟩ => ⟨S12x8x256, .i8⟩
  | .local _ .vmem, ⟨14, _⟩ => ⟨S12x8x256, .i8⟩
  | .local _ .vmem, ⟨15, _⟩ => ⟨S8x256, .i16⟩
  | .local _ .vmem, ⟨16, _⟩ => ⟨S8x256, .i16⟩
  | .local _ .vmem, ⟨17, _⟩ => ⟨S1536x256, .bf16⟩
  | .local _ .vmem, ⟨18, _⟩ => ⟨S1536x256, .bf16⟩
  | .local _ .vmem, ⟨19, _⟩ => ⟨S16x8x256, .i32⟩
  | .local _ .vmem, ⟨20, _⟩ => ⟨S2048x256, .bf16⟩
  | .local _ .vmem, ⟨21, _⟩ => ⟨S2048x256, .bf16⟩
  | _, _ => ⟨S6x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x32x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x64x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S12x8x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .i16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x32x256 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x64x256 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S12x8x256 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256 .i16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1536x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
abbrev S16x8x2x256 : Shape := ⟨4, ![16, 8, 2, 256]⟩
abbrev S16x8x1x256 : Shape := ⟨4, ![16, 8, 1, 256]⟩
abbrev S1x8x2x256 : Shape := ⟨4, ![1, 8, 2, 256]⟩
abbrev S1x8x1x256 : Shape := ⟨4, ![1, 8, 1, 256]⟩
abbrev S1x1x2x256 : Shape := ⟨4, ![1, 1, 2, 256]⟩
abbrev S1x1x1x256 : Shape := ⟨4, ![1, 1, 1, 256]⟩
  | .local _ .vmem, ⟨19, _⟩ => ⟨S16x8x2x256, .bf16⟩
variable {F : FTy → Type} [FloatOps F]
-- ==== ReferenceIdeal.lean ====
abbrev S6x256x2048 : Shape := ⟨3, ![6, 256, 2048]⟩
abbrev S16384x8x32 : Shape := ⟨3, ![16384, 8, 32]⟩
abbrev S16384x8x64 : Shape := ⟨3, ![16384, 8, 64]⟩
abbrev S16384x8x12 : Shape := ⟨3, ![16384, 8, 12]⟩
abbrev S16384x8 : Shape := ⟨2, ![16384, 8]⟩
abbrev S16384x8x8 : Shape := ⟨3, ![16384, 8, 8]⟩
abbrev S_ : Shape := ⟨0, ![]⟩
abbrev S16384x8x16 : Shape := ⟨3, ![16384, 8, 16]⟩
abbrev S16384x8x4 : Shape := ⟨3, ![16384, 8, 4]⟩
abbrev S16384x8x1 : Shape := ⟨3, ![16384, 8, 1]⟩
abbrev S16384x8x2x4x2x1 : Shape := ⟨6, ![16384, 8, 2, 4, 2, 1]⟩
abbrev S16384x8x2x1x32 : Shape := ⟨5, ![16384, 8, 2, 1, 32]⟩
abbrev S16384x8x1x1x32 : Shape := ⟨5, ![16384, 8, 1, 1, 32]⟩
abbrev S4 : Shape := ⟨1, ![4]⟩
abbrev S4x1 : Shape := ⟨2, ![4, 1]⟩
abbrev S2 : Shape := ⟨1, ![2]⟩
abbrev S2x1x1 : Shape := ⟨3, ![2, 1, 1]⟩
abbrev S1x1x1x4x1 : Shape := ⟨5, ![1, 1, 1, 4, 1]⟩
abbrev S16384x8x2x4x32 : Shape := ⟨5, ![16384, 8, 2, 4, 32]⟩
abbrev S1x4x1 : Shape := ⟨3, ![1, 4, 1]⟩
abbrev S2x4x1 : Shape := ⟨3, ![2, 4, 1]⟩
abbrev S1x1x2x4x1 : Shape := ⟨5, ![1, 1, 2, 4, 1]⟩
abbrev S16384x8x2x4x2x16 : Shape := ⟨6, ![16384, 8, 2, 4, 2, 16]⟩
abbrev S16384x2048 : Shape := ⟨2, ![16384, 2048]⟩
abbrev S6x256x16384 : Shape := ⟨3, ![6, 256, 16384]⟩
abbrev S1536x16384 : Shape := ⟨2, ![1536, 16384]⟩

abbrev nBuf : Space → Nat
  | .hbm => 327
  | .vmem => 0
  | .smem => 0
  | _ => 0

abbrev hbmTy0_0 (i : Nat) : BufTy := match i % 128 with
  | 0 => ⟨S6x256x2048, .bf16⟩
  | 1 => ⟨S16384x8x32, .i8⟩
  | 2 => ⟨S16384x8x64, .i8⟩
  | 3 => ⟨S16384x8x12, .i8⟩
  | 4 => ⟨S16384x8, .i16⟩
  | 5 => ⟨S16384x8x32, .i8⟩
  | 6 => ⟨S16384x8x64, .i8⟩
  | 7 => ⟨S16384x8x12, .i8⟩
  | 8 => ⟨S16384x8, .i16⟩
  | 9 => ⟨S16384x8x12, .i32⟩
  | 10 => ⟨S16384x8x8, .i32⟩
  | 11 => ⟨S_, .i32⟩
  | 12 => ⟨S16384x8x8, .i32⟩
  | 13 => ⟨S16384x8x8, .i32⟩
  | 14 => ⟨S16384x8x8, .i32⟩
  | 15 => ⟨S_, .i32⟩
  | 16 => ⟨S16384x8x8, .i32⟩
  | 17 => ⟨S16384x8x8, .i32⟩
  | 18 => ⟨S_, .i32⟩
  | 19 => ⟨S16384x8x8, .i32⟩
  | 20 => ⟨S16384x8x8, .i32⟩
  | 21 => ⟨S16384x8x16, .i32⟩
  | 22 => ⟨S16384x8x4, .i32⟩
  | 23 => ⟨S_, .i32⟩
  | 24 => ⟨S16384x8x4, .i32⟩
  | 25 => ⟨S16384x8x4, .i32⟩
  | 26 => ⟨S_, .i32⟩
  | 27 => ⟨S16384x8x4, .i32⟩
  | 28 => ⟨S16384x8x4, .i32⟩
  | 29 => ⟨S16384x8x4, .i32⟩
  | 30 => ⟨S_, .i32⟩
  | 31 => ⟨S16384x8x4, .i32⟩
  | 32 => ⟨S16384x8x4, .i32⟩
  | 33 => ⟨S_, .i32⟩
  | 34 => ⟨S16384x8x4, .i32⟩
  | 35 => ⟨S16384x8x4, .i32⟩
  | 36 => ⟨S16384x8x4, .i32⟩
  | 37 => ⟨S_, .i32⟩
  | 38 => ⟨S16384x8x4, .i32⟩
  | 39 => ⟨S16384x8x4, .i32⟩
  | 40 => ⟨S_, .i32⟩
  | 41 => ⟨S16384x8x4, .i32⟩
  | 42 => ⟨S16384x8x4, .i32⟩
  | 43 => ⟨S16384x8x4, .i32⟩
  | 44 => ⟨S_, .i32⟩
  | 45 => ⟨S16384x8x4, .i32⟩
  | 46 => ⟨S16384x8x4, .i32⟩
  | 47 => ⟨S_, .i32⟩
  | 48 => ⟨S16384x8x4, .i32⟩
  | 49 => ⟨S16384x8x4, .i32⟩
  | 50 => ⟨S16384x8x16, .i32⟩
  | 51 => ⟨S_, .i32⟩
  | 52 => ⟨S16384x8x16, .i32⟩
  | 53 => ⟨S16384x8x16, .i32⟩
  | 54 => ⟨S16384x8x16, .i32⟩
  | 55 => ⟨S16384x8, .i32⟩
  | 56 => ⟨S_, .i32⟩
  | 57 => ⟨S16384x8, .i32⟩
  | 58 => ⟨S16384x8, .i32⟩
  | 59 => ⟨S_, .i32⟩
  | 60 => ⟨S16384x8, .i32⟩
  | 61 => ⟨S16384x8, .i32⟩
  | 62 => ⟨S_, .i32⟩
  | 63 => ⟨S16384x8, .i32⟩
  | 64 => ⟨S16384x8, .i32⟩
  | 65 => ⟨S_, .i32⟩
  | 66 => ⟨S16384x8, .i32⟩
  | 67 => ⟨S16384x8, .i32⟩
  | 68 => ⟨S_, .i32⟩
  | 69 => ⟨S16384x8, .i32⟩
  | 70 => ⟨S16384x8, .i32⟩
  | 71 => ⟨S_, .i32⟩
  | 72 => ⟨S16384x8, .i32⟩
  | 73 => ⟨S16384x8, .i1⟩
  | 74 => ⟨S_, .i32⟩
  | 75 => ⟨S16384x8, .i32⟩
  | 76 => ⟨S16384x8, .i32⟩
  | 77 => ⟨S16384x8, .i32⟩
  | 78 => ⟨S16384x8, .f32⟩
  | 79 => ⟨S_, .i32⟩
  | 80 => ⟨S16384x8, .i32⟩
  | 81 => ⟨S16384x8, .i32⟩
  | 82 => ⟨S_, .i32⟩
  | 83 => ⟨S16384x8, .i32⟩
  | 84 => ⟨S16384x8, .i32⟩
  | 85 => ⟨S16384x8, .f32⟩
  | 86 => ⟨S_, .f32⟩
  | 87 => ⟨S16384x8, .f32⟩
  | 88 => ⟨S16384x8, .f32⟩
  | 89 => ⟨S_, .i32⟩
  | 90 => ⟨S16384x8, .i32⟩
  | 91 => ⟨S16384x8, .i1⟩
  | 92 => ⟨S_, .f32⟩
  | 93 => ⟨S_, .f32⟩
  | 94 => ⟨S16384x8, .f32⟩
  | 95 => ⟨S16384x8, .f32⟩
  | 96 => ⟨S16384x8, .f32⟩
  | 97 => ⟨S_, .i32⟩
  | 98 => ⟨S16384x8, .i32⟩
  | 99 => ⟨S16384x8, .i1⟩
  | 100 => ⟨S16384x8, .f32⟩
  | 101 => ⟨S16384x8, .f32⟩
  | 102 => ⟨S16384x8, .f32⟩
  | 103 => ⟨S_, .i32⟩
  | 104 => ⟨S16384x8, .i32⟩
  | 105 => ⟨S16384x8, .i1⟩
  | 106 => ⟨S16384x8, .f32⟩
  | 107 => ⟨S16384x8, .f32⟩
  | 108 => ⟨S16384x8x1, .f32⟩
  | 109 => ⟨S_, .i32⟩
  | 110 => ⟨S16384x8x16, .i32⟩
  | 111 => ⟨S16384x8x16, .i32⟩
  | 112 => ⟨S16384x8x16, .f32⟩
  | 113 => ⟨S16384x8x16, .f32⟩
  | 114 => ⟨S16384x8x16, .f32⟩
  | 115 => ⟨S16384x8x16, .bf16⟩
  | 116 => ⟨S16384x8x2x4x2x1, .bf16⟩
  | 117 => ⟨S16384x8x64, .i32⟩
  | 118 => ⟨S16384x8x2x1x32, .i32⟩
  | 119 => ⟨S16384x8x32, .i32⟩
  | 120 => ⟨S16384x8x1x1x32, .i32⟩
  | 121 => ⟨S4, .i32⟩
  | 122 => ⟨S4x1, .i32⟩
  | 123 => ⟨S2, .i32⟩
  | 124 => ⟨S2x1x1, .i32⟩
  | 125 => ⟨S_, .i32⟩
  | 126 => ⟨S4x1, .i32⟩
  | 127 => ⟨S4x1, .i32⟩
  | _ => ⟨S6x256x2048, .bf16⟩

abbrev hbmTy0_1 (i : Nat) : BufTy := match i % 128 with
  | 0 => ⟨S1x1x1x4x1, .i32⟩
  | 1 => ⟨S16384x8x2x4x32, .i32⟩
  | 2 => ⟨S16384x8x2x4x32, .i32⟩
  | 3 => ⟨S16384x8x2x4x32, .i32⟩
  | 4 => ⟨S_, .i32⟩
  | 5 => ⟨S16384x8x2x4x32, .i32⟩
  | 6 => ⟨S16384x8x2x4x32, .i32⟩
  | 7 => ⟨S_, .i32⟩
  | 8 => ⟨S2x1x1, .i32⟩
  | 9 => ⟨S2x1x1, .i32⟩
  | 10 => ⟨S1x4x1, .i32⟩
  | 11 => ⟨S2x4x1, .i32⟩
  | 12 => ⟨S2x4x1, .i32⟩
  | 13 => ⟨S2x4x1, .i32⟩
  | 14 => ⟨S1x1x2x4x1, .i32⟩
  | 15 => ⟨S16384x8x2x4x32, .i32⟩
  | 16 => ⟨S16384x8x2x4x32, .i32⟩
  | 17 => ⟨S16384x8x2x4x32, .i32⟩
  | 18 => ⟨S_, .i32⟩
  | 19 => ⟨S16384x8x2x4x32, .i32⟩
  | 20 => ⟨S16384x8x2x4x32, .i32⟩
  | 21 => ⟨S_, .i32⟩
  | 22 => ⟨S16384x8x2x4x32, .i32⟩
  | 23 => ⟨S16384x8x2x4x32, .i32⟩
  | 24 => ⟨S16384x8x2x4x32, .i32⟩
  | 25 => ⟨S_, .i32⟩
  | 26 => ⟨S16384x8x2x4x32, .i32⟩
  | 27 => ⟨S16384x8x2x4x32, .i32⟩
  | 28 => ⟨S16384x8x2x4x32, .bf16⟩
  | 29 => ⟨S16384x8x2x4x2x16, .bf16⟩
  | 30 => ⟨S16384x8x2x4x2x16, .bf16⟩
  | 31 => ⟨S16384x8x2x4x2x16, .bf16⟩
  | 32 => ⟨S16384x2048, .bf16⟩
  | 33 => ⟨S16384x8x12, .i32⟩
  | 34 => ⟨S16384x8x8, .i32⟩
  | 35 => ⟨S_, .i32⟩
  | 36 => ⟨S16384x8x8, .i32⟩
  | 37 => ⟨S16384x8x8, .i32⟩
  | 38 => ⟨S16384x8x8, .i32⟩
  | 39 => ⟨S_, .i32⟩
  | 40 => ⟨S16384x8x8, .i32⟩
  | 41 => ⟨S16384x8x8, .i32⟩
  | 42 => ⟨S_, .i32⟩
  | 43 => ⟨S16384x8x8, .i32⟩
  | 44 => ⟨S16384x8x8, .i32⟩
  | 45 => ⟨S16384x8x16, .i32⟩
  | 46 => ⟨S16384x8x4, .i32⟩
  | 47 => ⟨S_, .i32⟩
  | 48 => ⟨S16384x8x4, .i32⟩
  | 49 => ⟨S16384x8x4, .i32⟩
  | 50 => ⟨S_, .i32⟩
  | 51 => ⟨S16384x8x4, .i32⟩
  | 52 => ⟨S16384x8x4, .i32⟩
  | 53 => ⟨S16384x8x4, .i32⟩
  | 54 => ⟨S_, .i32⟩
  | 55 => ⟨S16384x8x4, .i32⟩
  | 56 => ⟨S16384x8x4, .i32⟩
  | 57 => ⟨S_, .i32⟩
  | 58 => ⟨S16384x8x4, .i32⟩
  | 59 => ⟨S16384x8x4, .i32⟩
  | 60 => ⟨S16384x8x4, .i32⟩
  | 61 => ⟨S_, .i32⟩
  | 62 => ⟨S16384x8x4, .i32⟩
  | 63 => ⟨S16384x8x4, .i32⟩
  | 64 => ⟨S_, .i32⟩
  | 65 => ⟨S16384x8x4, .i32⟩
  | 66 => ⟨S16384x8x4, .i32⟩
  | 67 => ⟨S16384x8x4, .i32⟩
  | 68 => ⟨S_, .i32⟩
  | 69 => ⟨S16384x8x4, .i32⟩
  | 70 => ⟨S16384x8x4, .i32⟩
  | 71 => ⟨S_, .i32⟩
  | 72 => ⟨S16384x8x4, .i32⟩
  | 73 => ⟨S16384x8x4, .i32⟩
  | 74 => ⟨S16384x8x16, .i32⟩
  | 75 => ⟨S_, .i32⟩
  | 76 => ⟨S16384x8x16, .i32⟩
  | 77 => ⟨S16384x8x16, .i32⟩
  | 78 => ⟨S16384x8x16, .i32⟩
  | 79 => ⟨S16384x8, .i32⟩
  | 80 => ⟨S_, .i32⟩
  | 81 => ⟨S16384x8, .i32⟩
  | 82 => ⟨S16384x8, .i32⟩
  | 83 => ⟨S_, .i32⟩
  | 84 => ⟨S16384x8, .i32⟩
  | 85 => ⟨S16384x8, .i32⟩
  | 86 => ⟨S_, .i32⟩
  | 87 => ⟨S16384x8, .i32⟩
  | 88 => ⟨S16384x8, .i32⟩
  | 89 => ⟨S_, .i32⟩
  | 90 => ⟨S16384x8, .i32⟩
  | 91 => ⟨S16384x8, .i32⟩
  | 92 => ⟨S_, .i32⟩
  | 93 => ⟨S16384x8, .i32⟩
  | 94 => ⟨S16384x8, .i32⟩
  | 95 => ⟨S_, .i32⟩
  | 96 => ⟨S16384x8, .i32⟩
  | 97 => ⟨S16384x8, .i1⟩
  | 98 => ⟨S_, .i32⟩
  | 99 => ⟨S16384x8, .i32⟩
  | 100 => ⟨S16384x8, .i32⟩
  | 101 => ⟨S16384x8, .i32⟩
  | 102 => ⟨S16384x8, .f32⟩
  | 103 => ⟨S_, .i32⟩
  | 104 => ⟨S16384x8, .i32⟩
  | 105 => ⟨S16384x8, .i32⟩
  | 106 => ⟨S_, .i32⟩
  | 107 => ⟨S16384x8, .i32⟩
  | 108 => ⟨S16384x8, .i32⟩
  | 109 => ⟨S16384x8, .f32⟩
  | 110 => ⟨S_, .f32⟩
  | 111 => ⟨S16384x8, .f32⟩
  | 112 => ⟨S16384x8, .f32⟩
  | 113 => ⟨S_, .i32⟩
  | 114 => ⟨S16384x8, .i32⟩
  | 115 => ⟨S16384x8, .i1⟩
  | 116 => ⟨S_, .f32⟩
  | 117 => ⟨S_, .f32⟩
  | 118 => ⟨S16384x8, .f32⟩
  | 119 => ⟨S16384x8, .f32⟩
  | 120 => ⟨S16384x8, .f32⟩
  | 121 => ⟨S_, .i32⟩
  | 122 => ⟨S16384x8, .i32⟩
  | 123 => ⟨S16384x8, .i1⟩
  | 124 => ⟨S16384x8, .f32⟩
  | 125 => ⟨S16384x8, .f32⟩
  | 126 => ⟨S16384x8, .f32⟩
  | 127 => ⟨S_, .i32⟩
  | _ => ⟨S6x256x2048, .bf16⟩

abbrev hbmTy0_2 (i : Nat) : BufTy := match i % 128 with
  | 0 => ⟨S16384x8, .i32⟩
  | 1 => ⟨S16384x8, .i1⟩
  | 2 => ⟨S16384x8, .f32⟩
  | 3 => ⟨S16384x8, .f32⟩
  | 4 => ⟨S16384x8x1, .f32⟩
  | 5 => ⟨S_, .i32⟩
  | 6 => ⟨S16384x8x16, .i32⟩
  | 7 => ⟨S16384x8x16, .i32⟩
  | 8 => ⟨S16384x8x16, .f32⟩
  | 9 => ⟨S16384x8x16, .f32⟩
  | 10 => ⟨S16384x8x16, .f32⟩
  | 11 => ⟨S16384x8x16, .bf16⟩
  | 12 => ⟨S16384x8x2x4x2x1, .bf16⟩
  | 13 => ⟨S16384x8x64, .i32⟩
  | 14 => ⟨S16384x8x2x1x32, .i32⟩
  | 15 => ⟨S16384x8x32, .i32⟩
  | 16 => ⟨S16384x8x1x1x32, .i32⟩
  | 17 => ⟨S4, .i32⟩
  | 18 => ⟨S4x1, .i32⟩
  | 19 => ⟨S2, .i32⟩
  | 20 => ⟨S2x1x1, .i32⟩
  | 21 => ⟨S_, .i32⟩
  | 22 => ⟨S4x1, .i32⟩
  | 23 => ⟨S4x1, .i32⟩
  | 24 => ⟨S1x1x1x4x1, .i32⟩
  | 25 => ⟨S16384x8x2x4x32, .i32⟩
  | 26 => ⟨S16384x8x2x4x32, .i32⟩
  | 27 => ⟨S16384x8x2x4x32, .i32⟩
  | 28 => ⟨S_, .i32⟩
  | 29 => ⟨S16384x8x2x4x32, .i32⟩
  | 30 => ⟨S16384x8x2x4x32, .i32⟩
  | 31 => ⟨S_, .i32⟩
  | 32 => ⟨S2x1x1, .i32⟩
  | 33 => ⟨S2x1x1, .i32⟩
  | 34 => ⟨S1x4x1, .i32⟩
  | 35 => ⟨S2x4x1, .i32⟩
  | 36 => ⟨S2x4x1, .i32⟩
  | 37 => ⟨S2x4x1, .i32⟩
  | 38 => ⟨S1x1x2x4x1, .i32⟩
  | 39 => ⟨S16384x8x2x4x32, .i32⟩
  | 40 => ⟨S16384x8x2x4x32, .i32⟩
  | 41 => ⟨S16384x8x2x4x32, .i32⟩
  | 42 => ⟨S_, .i32⟩
  | 43 => ⟨S16384x8x2x4x32, .i32⟩
  | 44 => ⟨S16384x8x2x4x32, .i32⟩
  | 45 => ⟨S_, .i32⟩
  | 46 => ⟨S16384x8x2x4x32, .i32⟩
  | 47 => ⟨S16384x8x2x4x32, .i32⟩
  | 48 => ⟨S16384x8x2x4x32, .i32⟩
  | 49 => ⟨S_, .i32⟩
  | 50 => ⟨S16384x8x2x4x32, .i32⟩
  | 51 => ⟨S16384x8x2x4x32, .i32⟩
  | 52 => ⟨S16384x8x2x4x32, .bf16⟩
  | 53 => ⟨S16384x8x2x4x2x16, .bf16⟩
  | 54 => ⟨S16384x8x2x4x2x16, .bf16⟩
  | 55 => ⟨S16384x8x2x4x2x16, .bf16⟩
  | 56 => ⟨S16384x2048, .bf16⟩
  | 57 => ⟨S6x256x16384, .f32⟩
  | 58 => ⟨S6x256x16384, .f32⟩
  | 59 => ⟨S6x256x16384, .f32⟩
  | 60 => ⟨S6x256x16384, .f32⟩
  | 61 => ⟨S_, .f32⟩
  | 62 => ⟨S6x256x16384, .f32⟩
  | 63 => ⟨S6x256x16384, .f32⟩
  | 64 => ⟨S_, .f32⟩
  | 65 => ⟨S6x256x16384, .f32⟩
  | 66 => ⟨S6x256x16384, .f32⟩
  | 67 => ⟨S6x256x16384, .f32⟩
  | 68 => ⟨S6x256x16384, .f32⟩
  | 69 => ⟨S6x256x16384, .bf16⟩
  | 70 => ⟨S1536x16384, .bf16⟩
  | _ => ⟨S6x256x2048, .bf16⟩

abbrev hbmTy (i : Nat) : BufTy := match i / 128 with
  | 0 => hbmTy0_0 i
  | 1 => hbmTy0_1 i
  | 2 => hbmTy0_2 i
  | _ => ⟨S6x256x2048, .bf16⟩

abbrev bufTy : (tb : Table) → Fin (tcTables nBuf tb) → BufTy
  | .hbm, ⟨i, _⟩ => hbmTy i
  | _, _ => ⟨S6x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_c_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_6 : Ref sig .tc := ⟨.hbm, 37, rfl⟩
abbrev main_v21 : Ref sig .tc := ⟨.hbm, 38, rfl⟩
abbrev main_v22 : Ref sig .tc := ⟨.hbm, 39, rfl⟩
abbrev main_c_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_8 : Ref sig .tc := ⟨.hbm, 44, rfl⟩
abbrev main_v26 : Ref sig .tc := ⟨.hbm, 45, rfl⟩
abbrev main_v27 : Ref sig .tc := ⟨.hbm, 46, rfl⟩
abbrev main_c_9 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_10 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_11 : Ref sig .tc := ⟨.hbm, 56, rfl⟩
abbrev main_v35 : Ref sig .tc := ⟨.hbm, 57, rfl⟩
abbrev main_v36 : Ref sig .tc := ⟨.hbm, 58, rfl⟩
abbrev main_c_12 : Ref sig .tc := ⟨.hbm, 59, rfl⟩
abbrev main_v37 : Ref sig .tc := ⟨.hbm, 60, rfl⟩
abbrev main_v38 : Ref sig .tc := ⟨.hbm, 61, rfl⟩
abbrev main_c_13 : Ref sig .tc := ⟨.hbm, 62, rfl⟩
abbrev main_v39 : Ref sig .tc := ⟨.hbm, 63, rfl⟩
abbrev main_v40 : Ref sig .tc := ⟨.hbm, 64, rfl⟩
abbrev main_c_14 : Ref sig .tc := ⟨.hbm, 65, rfl⟩
abbrev main_v41 : Ref sig .tc := ⟨.hbm, 66, rfl⟩
abbrev main_v42 : Ref sig .tc := ⟨.hbm, 67, rfl⟩
abbrev main_c_15 : Ref sig .tc := ⟨.hbm, 68, rfl⟩
abbrev main_v43 : Ref sig .tc := ⟨.hbm, 69, rfl⟩
abbrev main_v44 : Ref sig .tc := ⟨.hbm, 70, rfl⟩
abbrev main_c_16 : Ref sig .tc := ⟨.hbm, 71, rfl⟩
abbrev main_v45 : Ref sig .tc := ⟨.hbm, 72, rfl⟩
abbrev main_v46 : Ref sig .tc := ⟨.hbm, 73, rfl⟩
abbrev main_c_17 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_18 : Ref sig .tc := ⟨.hbm, 79, rfl⟩
abbrev main_v51 : Ref sig .tc := ⟨.hbm, 80, rfl⟩
abbrev main_v52 : Ref sig .tc := ⟨.hbm, 81, rfl⟩
abbrev main_c_19 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst : Ref sig .tc := ⟨.hbm, 86, rfl⟩
abbrev main_v56 : Ref sig .tc := ⟨.hbm, 87, rfl⟩
abbrev main_v57 : Ref sig .tc := ⟨.hbm, 88, rfl⟩
abbrev main_c_20 : Ref sig .tc := ⟨.hbm, 89, rfl⟩
abbrev main_v58 : Ref sig .tc := ⟨.hbm, 90, rfl⟩
abbrev main_v59 : Ref sig .tc := ⟨.hbm, 91, rfl⟩
abbrev main_cst_21 : Ref sig .tc := ⟨.hbm, 92, rfl⟩
abbrev main_cst_22 : Ref sig .tc := ⟨.hbm, 93, rfl⟩
abbrev main_call1_v0 : Ref sig .tc := ⟨.hbm, 94, rfl⟩
abbrev main_call1_v1 : Ref sig .tc := ⟨.hbm, 95, rfl⟩
abbrev main_v60 : Ref sig .tc := ⟨.hbm, 96, rfl⟩
abbrev main_c_23 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_call2_v0 : Ref sig .tc := ⟨.hbm, 101, rfl⟩
abbrev main_v64 : Ref sig .tc := ⟨.hbm, 102, rfl⟩
abbrev main_c_24 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_c_25 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_c_26 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_c_27 : Ref sig .tc := ⟨.hbm, 132, rfl⟩
abbrev main_v91 : Ref sig .tc := ⟨.hbm, 133, rfl⟩
abbrev main_v92 : Ref sig .tc := ⟨.hbm, 134, rfl⟩
abbrev main_c_28 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_c_29 : Ref sig .tc := ⟨.hbm, 146, rfl⟩
abbrev main_v103 : Ref sig .tc := ⟨.hbm, 147, rfl⟩
abbrev main_v104 : Ref sig .tc := ⟨.hbm, 148, rfl⟩
abbrev main_c_30 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_c_31 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_c_32 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_c_33 : Ref sig .tc := ⟨.hbm, 167, rfl⟩
abbrev main_v120 : Ref sig .tc := ⟨.hbm, 168, rfl⟩
abbrev main_v121 : Ref sig .tc := ⟨.hbm, 169, rfl⟩
abbrev main_c_34 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_c_35 : Ref sig .tc := ⟨.hbm, 175, rfl⟩
abbrev main_v126 : Ref sig .tc := ⟨.hbm, 176, rfl⟩
abbrev main_v127 : Ref sig .tc := ⟨.hbm, 177, rfl⟩
abbrev main_c_36 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_c_37 : Ref sig .tc := ⟨.hbm, 182, rfl⟩
abbrev main_v131 : Ref sig .tc := ⟨.hbm, 183, rfl⟩
abbrev main_v132 : Ref sig .tc := ⟨.hbm, 184, rfl⟩
abbrev main_c_38 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_c_39 : Ref sig .tc := ⟨.hbm, 189, rfl⟩
abbrev main_v136 : Ref sig .tc := ⟨.hbm, 190, rfl⟩
abbrev main_v137 : Ref sig .tc := ⟨.hbm, 191, rfl⟩
abbrev main_c_40 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_c_41 : Ref sig .tc := ⟨.hbm, 196, rfl⟩
abbrev main_v141 : Ref sig .tc := ⟨.hbm, 197, rfl⟩
abbrev main_v142 : Ref sig .tc := ⟨.hbm, 198, rfl⟩
abbrev main_c_42 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_c_43 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_c_44 : Ref sig .tc := ⟨.hbm, 208, rfl⟩
abbrev main_v150 : Ref sig .tc := ⟨.hbm, 209, rfl⟩
abbrev main_v151 : Ref sig .tc := ⟨.hbm, 210, rfl⟩
abbrev main_c_45 : Ref sig .tc := ⟨.hbm, 211, rfl⟩
abbrev main_v152 : Ref sig .tc := ⟨.hbm, 212, rfl⟩
abbrev main_v153 : Ref sig .tc := ⟨.hbm, 213, rfl⟩
abbrev main_c_46 : Ref sig .tc := ⟨.hbm, 214, rfl⟩
abbrev main_v154 : Ref sig .tc := ⟨.hbm, 215, rfl⟩
abbrev main_v155 : Ref sig .tc := ⟨.hbm, 216, rfl⟩
abbrev main_c_47 : Ref sig .tc := ⟨.hbm, 217, rfl⟩
abbrev main_v156 : Ref sig .tc := ⟨.hbm, 218, rfl⟩
abbrev main_v157 : Ref sig .tc := ⟨.hbm, 219, rfl⟩
abbrev main_c_48 : Ref sig .tc := ⟨.hbm, 220, rfl⟩
abbrev main_v158 : Ref sig .tc := ⟨.hbm, 221, rfl⟩
abbrev main_v159 : Ref sig .tc := ⟨.hbm, 222, rfl⟩
abbrev main_c_49 : Ref sig .tc := ⟨.hbm, 223, rfl⟩
abbrev main_v160 : Ref sig .tc := ⟨.hbm, 224, rfl⟩
abbrev main_v161 : Ref sig .tc := ⟨.hbm, 225, rfl⟩
abbrev main_c_50 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_c_51 : Ref sig .tc := ⟨.hbm, 231, rfl⟩
abbrev main_v166 : Ref sig .tc := ⟨.hbm, 232, rfl⟩
abbrev main_v167 : Ref sig .tc := ⟨.hbm, 233, rfl⟩
abbrev main_c_52 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_cst_53 : Ref sig .tc := ⟨.hbm, 238, rfl⟩
abbrev main_v171 : Ref sig .tc := ⟨.hbm, 239, rfl⟩
abbrev main_v172 : Ref sig .tc := ⟨.hbm, 240, rfl⟩
abbrev main_c_54 : Ref sig .tc := ⟨.hbm, 241, rfl⟩
abbrev main_v173 : Ref sig .tc := ⟨.hbm, 242, rfl⟩
abbrev main_v174 : Ref sig .tc := ⟨.hbm, 243, rfl⟩
abbrev main_cst_55 : Ref sig .tc := ⟨.hbm, 244, rfl⟩
abbrev main_cst_56 : Ref sig .tc := ⟨.hbm, 245, rfl⟩
abbrev main_call5_v0 : Ref sig .tc := ⟨.hbm, 246, rfl⟩
abbrev main_call5_v1 : Ref sig .tc := ⟨.hbm, 247, rfl⟩
abbrev main_v175 : Ref sig .tc := ⟨.hbm, 248, rfl⟩
abbrev main_c_57 : Ref sig .tc := ⟨.hbm, 249, rfl⟩
abbrev main_v176 : Ref sig .tc := ⟨.hbm, 250, rfl⟩
abbrev main_v177 : Ref sig .tc := ⟨.hbm, 251, rfl⟩
abbrev main_v178 : Ref sig .tc := ⟨.hbm, 252, rfl⟩
abbrev main_call6_v0 : Ref sig .tc := ⟨.hbm, 253, rfl⟩
abbrev main_v179 : Ref sig .tc := ⟨.hbm, 254, rfl⟩
abbrev main_c_58 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev main_c_59 : Ref sig .tc := ⟨.hbm, 261, rfl⟩
abbrev main_v185 : Ref sig .tc := ⟨.hbm, 262, rfl⟩
abbrev main_v186 : Ref sig .tc := ⟨.hbm, 263, rfl⟩
abbrev main_v187 : Ref sig .tc := ⟨.hbm, 264, rfl⟩
abbrev main_v188 : Ref sig .tc := ⟨.hbm, 265, rfl⟩
abbrev main_v189 : Ref sig .tc := ⟨.hbm, 266, rfl⟩
abbrev main_v190 : Ref sig .tc := ⟨.hbm, 267, rfl⟩
abbrev main_v191 : Ref sig .tc := ⟨.hbm, 268, rfl⟩
abbrev main_v192 : Ref sig .tc := ⟨.hbm, 269, rfl⟩
abbrev main_v193 : Ref sig .tc := ⟨.hbm, 270, rfl⟩
abbrev main_v194 : Ref sig .tc := ⟨.hbm, 271, rfl⟩
abbrev main_v195 : Ref sig .tc := ⟨.hbm, 272, rfl⟩
abbrev main_v196 : Ref sig .tc := ⟨.hbm, 273, rfl⟩
abbrev main_v197 : Ref sig .tc := ⟨.hbm, 274, rfl⟩
abbrev main_v198 : Ref sig .tc := ⟨.hbm, 275, rfl⟩
abbrev main_v199 : Ref sig .tc := ⟨.hbm, 276, rfl⟩
abbrev main_c_60 : Ref sig .tc := ⟨.hbm, 277, rfl⟩
abbrev main_v200 : Ref sig .tc := ⟨.hbm, 278, rfl⟩
abbrev main_v201 : Ref sig .tc := ⟨.hbm, 279, rfl⟩
abbrev main_v202 : Ref sig .tc := ⟨.hbm, 280, rfl⟩
abbrev main_v203 : Ref sig .tc := ⟨.hbm, 281, rfl⟩
abbrev main_v204 : Ref sig .tc := ⟨.hbm, 282, rfl⟩
abbrev main_v205 : Ref sig .tc := ⟨.hbm, 283, rfl⟩
abbrev main_c_61 : Ref sig .tc := ⟨.hbm, 284, rfl⟩
abbrev main_v206 : Ref sig .tc := ⟨.hbm, 285, rfl⟩
abbrev main_v207 : Ref sig .tc := ⟨.hbm, 286, rfl⟩
abbrev main_c_62 : Ref sig .tc := ⟨.hbm, 287, rfl⟩
abbrev main_v208 : Ref sig .tc := ⟨.hbm, 288, rfl⟩
abbrev main_v209 : Ref sig .tc := ⟨.hbm, 289, rfl⟩
abbrev main_v210 : Ref sig .tc := ⟨.hbm, 290, rfl⟩
abbrev main_v211 : Ref sig .tc := ⟨.hbm, 291, rfl⟩
abbrev main_v212 : Ref sig .tc := ⟨.hbm, 292, rfl⟩
abbrev main_v213 : Ref sig .tc := ⟨.hbm, 293, rfl⟩
abbrev main_v214 : Ref sig .tc := ⟨.hbm, 294, rfl⟩
abbrev main_v215 : Ref sig .tc := ⟨.hbm, 295, rfl⟩
abbrev main_v216 : Ref sig .tc := ⟨.hbm, 296, rfl⟩
abbrev main_v217 : Ref sig .tc := ⟨.hbm, 297, rfl⟩
abbrev main_c_63 : Ref sig .tc := ⟨.hbm, 298, rfl⟩
abbrev main_v218 : Ref sig .tc := ⟨.hbm, 299, rfl⟩
abbrev main_v219 : Ref sig .tc := ⟨.hbm, 300, rfl⟩
abbrev main_c_64 : Ref sig .tc := ⟨.hbm, 301, rfl⟩
abbrev main_v220 : Ref sig .tc := ⟨.hbm, 302, rfl⟩
abbrev main_v221 : Ref sig .tc := ⟨.hbm, 303, rfl⟩
abbrev main_v222 : Ref sig .tc := ⟨.hbm, 304, rfl⟩
abbrev main_c_65 : Ref sig .tc := ⟨.hbm, 305, rfl⟩
abbrev main_v223 : Ref sig .tc := ⟨.hbm, 306, rfl⟩
abbrev main_v224 : Ref sig .tc := ⟨.hbm, 307, rfl⟩
abbrev main_v225 : Ref sig .tc := ⟨.hbm, 308, rfl⟩
abbrev main_v226 : Ref sig .tc := ⟨.hbm, 309, rfl⟩
abbrev main_v227 : Ref sig .tc := ⟨.hbm, 310, rfl⟩
abbrev main_v228 : Ref sig .tc := ⟨.hbm, 311, rfl⟩
abbrev main_v229 : Ref sig .tc := ⟨.hbm, 312, rfl⟩
abbrev main_v230 : Ref sig .tc := ⟨.hbm, 313, rfl⟩
abbrev main_v231 : Ref sig .tc := ⟨.hbm, 314, rfl⟩
abbrev main_v232 : Ref sig .tc := ⟨.hbm, 315, rfl⟩
abbrev main_v233 : Ref sig .tc := ⟨.hbm, 316, rfl⟩
abbrev main_cst_66 : Ref sig .tc := ⟨.hbm, 317, rfl⟩
abbrev main_v234 : Ref sig .tc := ⟨.hbm, 318, rfl⟩
abbrev main_v235 : Ref sig .tc := ⟨.hbm, 319, rfl⟩
abbrev main_cst_67 : Ref sig .tc := ⟨.hbm, 320, rfl⟩
abbrev main_v236 : Ref sig .tc := ⟨.hbm, 321, rfl⟩
abbrev main_v237 : Ref sig .tc := ⟨.hbm, 322, rfl⟩
abbrev main_v238 : Ref sig .tc := ⟨.hbm, 323, rfl⟩
abbrev main_v239 : Ref sig .tc := ⟨.hbm, 324, rfl⟩
abbrev main_v240 : Ref sig .tc := ⟨.hbm, 325, rfl⟩
abbrev main_v241 : Ref sig .tc := ⟨.hbm, 326, rfl⟩

abbrev nD : Nat := 1
abbrev τ : Topo := Topo.v7x

variable {F : FTy → Type} [FloatOps F]
-- ==== Proof.Q3k.Tile.lean ====
/-
What one point of the kernel stores, in terms of a few parametrised payloads: the scale of group `i` of every block,
the sixteen weight rows `n`, and the product of the activations with the two weight tiles. The run found for a grid
point lists one store per group and per sixteen rows; each list is shown to be the parametrised one.
-/
module

public import proofs.«01_k».proof.Proof.Gen.KernelIdeal.Frame
public import Idealize.ShloMosaic.Lib.WritesUnit

@[expose] public section

set_option maxRecDepth 16384

noncomputable section

namespace Cert.Q3k

open Idealize.ShloMosaic Cert.KernelIdeal Cert.KernelIdeal.Gen

variable {F : FTy → Type} [FloatOps F]

/-- The six-bit scale of group `i`, less 32: four bits of one packed byte and two of another. -/
def scaleCode (i : ℕ) (lo hi : Vec F S1x8x256 .i8) : IVec S8x256 32 :=
  subi
    (ori
      (andi (shrsi (extui 32 (shapeCast S8x256 lo shapeCasts_S1x8x256_S8x256) natLt_8_32)
        (broadcast S8x256 (BitVec.ofNat 32 (4 * (i / 8))))) (broadcast S8x256 15#32))
      (shli (andi (shrsi (extui 32 (shapeCast S8x256 hi shapeCasts_S1x8x256_S8x256) natLt_8_32)
        (broadcast S8x256 (BitVec.ofNat 32 (2 * (i / 4))))) (broadcast S8x256 3#32)) (broadcast S8x256 4#32)))
    (broadcast S8x256 32#32)

/-- The scale of group `i`, rounded, of the eight blocks of each column. -/
def scaleRow (i : ℕ) (d : FVec F S8x256 .f32) (lo hi : Vec F S1x8x256 .i8) : FVec F S8x256 .bf16 :=
  truncf .bf16 (extf .f32 (truncf .bf16 (mulf d (sitofp .f32 (scaleCode i lo hi))) bitsLt_bf16_f32) bitsLt_bf16_f32)

/-- The scales of group `i`, each twice, as the scratch holds them. -/
def scalePiece (i : ℕ) (d : FVec F S8x256 .f32) (lo hi : Vec F S1x8x256 .i8) : Vec F S1x8x2x256 .bf16 :=
  interleaveRows S1x8x2x256
    (shapeCast S1x8x1x256 (shapeCast S1x8x256 (scaleRow i d lo hi) shapeCasts_S8x256_S1x8x256) shapeCasts_S1x8x256_S1x8x1x256)
    (shapeCast S1x8x1x256 (shapeCast S1x8x256 (scaleRow i d lo hi) shapeCasts_S8x256_S1x8x256) shapeCasts_S1x8x256_S1x8x1x256)
    bitcasts_S1x8x2x256_w16_S1x8x1x256_w32

/-- The mask words moved so that the bit of slab `s` lies at bit two of each byte. -/
def maskShift : ℕ → IVec S8x256 32 → IVec S8x256 32
  | 0, hm => shli hm (broadcast S8x256 2#32)
  | 1, hm => shli hm (broadcast S8x256 1#32)
  | s + 2, hm => shrui hm (broadcast S8x256 (BitVec.ofNat 32 s))

/-- The three-bit codes, less 4, of the thirty-two rows of slab `j` of half `h`. -/
def codes (h j : ℕ) (q hm : Vec F S1x32x256 .i8) : FVec F S32x256 .bf16 :=
  subf
    (sitofp .bf16 (bitcast S32x256 8
      (ori
        (andi (shrui (bitcast S8x256 32 (shapeCast S32x256 q shapeCasts_S1x32x256_S32x256) bitcasts_S32x256_w8_S8x256_w32)
          (broadcast S8x256 (BitVec.ofNat 32 (2 * j)))) (broadcast S8x256 50529027#32))
        (andi (maskShift (4 * h + j)
          (bitcast S8x256 32 (shapeCast S32x256 hm shapeCasts_S1x32x256_S32x256) bitcasts_S32x256_w8_S8x256_w32))
          (broadcast S8x256 67372036#32)))
      bitcasts_S8x256_w32_S32x256_w8))
    (broadcast S32x256 (Scalar.ofBits .bf16 0x4080#16))

/-- A pair of equal scale rows repeated over eight row pairs. -/
def scaleRows (g : Vec F S1x1x2x256 .bf16) : FVec F S16x256 .bf16 :=
  let lo : FVec F S1x256 .bf16 := shapeCast S1x256 (shapeCast S1x1x256 (rowsOfParity 0 S1x1x1x256 g bitcasts_S1x1x2x256_w16_S1x1x1x256_w32) shapeCasts_S1x1x1x256_S1x1x256) shapeCasts_S1x1x256_S1x256
  let hi : FVec F S1x256 .bf16 := shapeCast S1x256 (shapeCast S1x1x256 (rowsOfParity 1 S1x1x1x256 g bitcasts_S1x1x2x256_w16_S1x1x1x256_w32) shapeCasts_S1x1x1x256_S1x1x256) shapeCasts_S1x1x256_S1x256
  interleaveRows S16x256
    (concatenate S8x256 0 [⟨S1x256, lo⟩, ⟨S1x256, lo⟩, ⟨S1x256, lo⟩, ⟨S1x256, lo⟩, ⟨S1x256, lo⟩, ⟨S1x256, lo⟩, ⟨S1x256, lo⟩, ⟨S1x256, lo⟩] concatenates_S1x256_S1x256_S1x256_S1x256_S1x256_S1x256_S1x256_S1x256_S8x256_d0)
    (concatenate S8x256 0 [⟨S1x256, hi⟩, ⟨S1x256, hi⟩, ⟨S1x256, hi⟩, ⟨S1x256, hi⟩, ⟨S1x256, hi⟩, ⟨S1x256, hi⟩, ⟨S1x256, hi⟩, ⟨S1x256, hi⟩] concatenates_S1x256_S1x256_S1x256_S1x256_S1x256_S1x256_S1x256_S1x256_S8x256_d0)
    bitcasts_S16x256_w16_S8x256_w32

/-- Half `t` of a slab's thirty-two rows lies inside them. -/
theorem slices_half (t : ℕ) (ht : t < 2) : S32x256.Slices ![16 * t, 0] S16x256 := by
  obtain rfl | rfl : t = 0 ∨ t = 1 := by omega
  all_goals decide

/-- Sixteen weight rows: half `t` of the slab's codes times their group's scales. -/
def weightPiece (h j t : ℕ) (ht : t < 2) (q hm : Vec F S1x32x256 .i8) (g : Vec F S1x1x2x256 .bf16) : FVec F S16x256 .bf16 :=
  shapeCast S16x256
    (mulf (extractStridedSlice S16x256 ![16 * t, 0] (codes h j q hm) (slices_half t ht)) (scaleRows g))
    shapeCasts_S16x256_S16x256

/-! ## The pieces -/

/-- Where the scales of group `i` are stored. -/
def scaleOff (i : Fin 16) : Fin 4 → ℕ := ![i.val, 0, 0, 0]

/-- The scales of group `i` lie inside the scratch. -/
theorem scaleOff_inb (i : Fin 16) (a : Fin 4) : scaleOff i a + S1x8x2x256.size a ≤ S16x8x2x256.size a := by
  have := i.isLt
  fin_cases a <;> simp [scaleOff, Shape.size] <;> omega

/-- Row `k` of the packed scales lies inside them. -/
theorem scaleRow_inb (k : ℕ) (hk : k < 12) (a : Fin 3) : (![k, 0, 0] : Fin 3 → ℕ) a + S1x8x256.size a ≤ S12x8x256.size a := by
  fin_cases a <;> simp [Shape.size] <;> omega

/-- Where the weight rows `16 n` to `16 n + 15` are stored. -/
def weightOff (n : Fin 128) : Fin 2 → ℕ := ![16 * n.val, 0]

/-- The weight rows lie inside the scratch. -/
theorem weightOff_inb (n : Fin 128) (a : Fin 2) : weightOff n a + S16x256.size a ≤ S2048x256.size a := by
  have := n.isLt
  fin_cases a <;> simp [weightOff, Shape.size] <;> omega

/-- The mask rows of block `b` lie inside the masks. -/
theorem mask_inb (b : ℕ) (hb : b < 8) (a : Fin 3) : (![b, 0, 0] : Fin 3 → ℕ) a + S1x32x256.size a ≤ S8x32x256.size a := by
  fin_cases a <;> simp [Shape.size] <;> omega

/-- The code rows of half `h` of block `b` lie inside the codes. -/
theorem code_inb (b h : ℕ) (hb : b < 8) (hh : h < 2) (a : Fin 3) :
    (![b, 32 * h, 0] : Fin 3 → ℕ) a + S1x32x256.size a ≤ S8x64x256.size a := by
  fin_cases a <;> simp [Shape.size] <;> omega

/-- The scale pair of group `i` of block `b` lies inside the scratch. -/
theorem pair_inb (i b : ℕ) (hi : i < 16) (hb : b < 8) (a : Fin 4) :
    (![i, b, 0, 0] : Fin 4 → ℕ) a + S1x1x2x256.size a ≤ S16x8x2x256.size a := by
  fin_cases a <;> simp [Shape.size] <;> omega

section Run

variable (arg2 : Memref sig .tc .vmem S8x32x256 .i8) (harg2 : arg2.IsWhole) (arg3 : Memref sig .tc .vmem S8x64x256 .i8)
  (harg3 : arg3.IsWhole) (arg4 : Memref sig .tc .vmem S12x8x256 .i8) (harg4 : arg4.IsWhole)
  (arg5 : Memref sig .tc .vmem S8x256 .i16) (harg5 : arg5.IsWhole)
  (arg11 : Memref sig .tc .vmem S16x8x2x256 .bf16)
  (x1 : Vec F S8x32x256 .i8) (x2 : Vec F S8x64x256 .i8) (x3 : Vec F S12x8x256 .i8) (x4 : Vec F S8x256 .i16)

/-- The scales of group `i` from the packed scales and the blocks' 16-bit words. -/
def scaleAt (i : Fin 16) : Vec F S1x8x2x256 .bf16 :=
  scalePiece i.val
    (k0_pay2 (View.readAt (Elt F) arg5.view (Rect.unit ![0, 0] S8x256.size inb_S8x256_S8x256_0_0).toLoadRect (harg5.unread x4)))
    (View.readAt (Elt F) arg4.view (Rect.unit (s := S12x8x256) ![i.val % 8, 0, 0] S1x8x256.size (scaleRow_inb _ (by omega))).toLoadRect (harg4.unread x3))
    (View.readAt (Elt F) arg4.view (Rect.unit (s := S12x8x256) ![8 + i.val % 4, 0, 0] S1x8x256.size (scaleRow_inb _ (by omega))).toLoadRect (harg4.unread x3))

/-- The weight rows `16 n` to `16 n + 15`, the scales read back from the scratch after the stores `L`. -/
def weightAt (L : List (View.Piece (Elt F) S16x8x2x256 .bf16)) (n : Fin 128) : Vec F S16x256 .bf16 :=
  weightPiece (n.val / 8 % 2) (n.val / 2 % 4) (n.val % 2) (by omega)
    (View.readAt (Elt F) arg3.view (Rect.unit (s := S8x64x256) ![n.val / 16, 32 * (n.val / 8 % 2), 0] S1x32x256.size
      (code_inb _ _ (by omega) (by omega))).toLoadRect (harg3.unread x2))
    (View.readAt (Elt F) arg2.view (Rect.unit (s := S8x32x256) ![n.val / 16, 0, 0] S1x32x256.size (mask_inb _ (by omega))).toLoadRect (harg2.unread x1))
    (arg11.view.readCov L (Rect.unit (s := S16x8x2x256) ![n.val % 16, n.val / 16, 0, 0] S1x1x2x256.size (pair_inb _ _ (by omega) (by omega))).toLoadRect)

/-- The scale stores of one matrix, newest first. -/
def scalePieces : List (View.Piece (Elt F) S16x8x2x256 .bf16) :=
  View.tilePieces S1x8x2x256.size scaleOff scaleOff_inb (scaleAt arg4 harg4 arg5 harg5 x3 x4) 16 le_rfl

/-- The weight stores of one matrix, newest first. -/
def weightPieces (L : List (View.Piece (Elt F) S16x8x2x256 .bf16)) : List (View.Piece (Elt F) S2048x256 .bf16) :=
  View.tilePieces S16x256.size weightOff weightOff_inb (weightAt arg2 harg2 arg3 harg3 arg11 x1 x2 L) 128 le_rfl

variable (c : Dev nD)
  (arg6 : Memref sig .tc .vmem S8x32x256 .i8) (harg6 : arg6.IsWhole) (arg7 : Memref sig .tc .vmem S8x64x256 .i8)
  (harg7 : arg7.IsWhole) (arg8 : Memref sig .tc .vmem S12x8x256 .i8) (harg8 : arg8.IsWhole)
  (arg9 : Memref sig .tc .vmem S8x256 .i16) (harg9 : arg9.IsWhole)
  (arg12 : Memref sig .tc .vmem S2048x256 .bf16) (arg13 : Memref sig .tc .vmem S2048x256 .bf16)
  (x5 : Vec F S8x32x256 .i8) (x6 : Vec F S8x64x256 .i8) (x7 : Vec F S12x8x256 .i8) (x8 : Vec F S8x256 .i16)

/-- The run's scale stores of the first matrix. -/
theorem gateScales_eq : kernelRun0_A.sl.HS0_16 c arg4 harg4 arg5 harg5 x3 x4 = scalePieces arg4 harg4 arg5 harg5 x3 x4 := rfl

/-- The run's scale stores of the second matrix, over those of the first. -/
theorem upScales_eq : kernelRun0_A.sl.HS0_32 c arg4 harg4 arg5 harg5 arg8 harg8 arg9 harg9 x3 x4 x7 x8
    = scalePieces arg8 harg8 arg9 harg9 x7 x8 ++ scalePieces arg4 harg4 arg5 harg5 x3 x4 := rfl

/-- The run's weight stores of the first matrix. -/
theorem gateWeights_eq : kernelRun0_A.sl.HS1_128 c arg2 harg2 arg3 harg3 arg4 harg4 arg5 harg5 arg11 x1 x2 x3 x4
    = weightPieces arg2 harg2 arg3 harg3 arg11 x1 x2 (scalePieces arg4 harg4 arg5 harg5 x3 x4) := rfl

/-- The run's weight stores of the second matrix. -/
theorem upWeights_eq :
    kernelRun0_A.sl.HS2_128 c arg4 harg4 arg5 harg5 arg6 harg6 arg7 harg7 arg8 harg8 arg9 harg9 arg11 x3 x4 x5 x6 x7 x8
      = weightPieces arg6 harg6 arg7 harg7 arg11 x5 x6
        (scalePieces arg8 harg8 arg9 harg9 x7 x8 ++ scalePieces arg4 harg4 arg5 harg5 x3 x4) := rfl

end Run

end Cert.Q3k
-- ==== Proof.Q3k.Half.lean ====
/-
The value of a 16-bit float's word over the extended reals: the kernel moves its exponent and fraction into a 32-bit
float's word, the reference spells the value by its definition. Both are `halfVal`.
-/
module

public import Idealize.ShloMosaic.Lib.IdealHost
public import Idealize.ShloMosaic.Lib.BitcastFour
public import Idealize.ShloMosaic.PureOps.Ideal.Laws
public import Mathlib.Data.Nat.Bitwise

@[expose] public section

noncomputable section

namespace Cert.Q3k

open Idealize.ShloMosaic

/-! ## Words at their numbers -/

/-- A 16-bit word widened with its sign and masked to sixteen bits is the word widened with zeros. -/
theorem andi_signExtend_65535 (w : BitVec 16) : IntOp.andi (w.signExtend 32) 65535#32 = w.setWidth 32 := by
  apply BitVec.eq_of_getLsbD_eq
  intro i hi
  have h255 : (65535#32 : BitVec 32).getLsbD i = decide (i < 16) := by
    have : i < 32 := hi
    interval_cases i <;> rfl
  simp only [IntOp.andi, BitVec.getLsbD_and, BitVec.getLsbD_signExtend, BitVec.getLsbD_setWidth, h255]
  by_cases h : i < 16
  · simp [h, hi]
  · simp [h, BitVec.getLsbD_of_ge w i (by omega)]

/-- A word masked to its low `k` bits is its number modulo `2 ^ k`. -/
theorem toNat_and_mask (x : BitVec 32) (k : ℕ) (m : BitVec 32) (hm : m.toNat = 2 ^ k - 1) :
    (IntOp.andi x m).toNat = x.toNat % 2 ^ k := by
  simp only [IntOp.andi, BitVec.toNat_and, hm, Nat.and_two_pow_sub_one_eq_mod]

/-- A shift left by less than the width. -/
theorem toNat_shli (u : ArithUnit) (x y : BitVec 32) (hy : y.toNat < 32) :
    (IntOp.shli u x y).toNat = x.toNat * 2 ^ y.toNat % 2 ^ 32 := by
  simp only [IntOp.shli, hy, if_true]
  simp [BitVec.toNat_shiftLeft, Nat.shiftLeft_eq]

/-- A logical shift right by less than the width. -/
theorem toNat_shrui (u : ArithUnit) (x y : BitVec 32) (hy : y.toNat < 32) :
    (IntOp.shrui u x y).toNat = x.toNat / 2 ^ y.toNat := by
  simp only [IntOp.shrui, hy, if_true]
  simp [BitVec.toNat_ushiftRight, Nat.shiftRight_eq_div_pow]

/-- An arithmetic shift right of a word whose sign bit is clear. -/
theorem toNat_shrsi (u : ArithUnit) (x y : BitVec 32) (hy : y.toNat < 32) (hx : x.toNat < 2 ^ 31) :
    (IntOp.shrsi u x y).toNat = x.toNat / 2 ^ y.toNat := by
  have hm : x.msb = false := by rw [BitVec.msb_eq_false_iff_two_mul_lt]; omega
  simp only [IntOp.shrsi, hy, if_true]
  simp [BitVec.sshiftRight', BitVec.sshiftRight_eq_of_msb_false hm, BitVec.toNat_ushiftRight, Nat.shiftRight_eq_div_pow]

/-- The integer of a word whose sign bit is clear. -/
theorem toInt_small (x : BitVec 32) (hx : x.toNat < 2 ^ 31) : x.toInt = (x.toNat : ℤ) := by
  rw [BitVec.toInt_eq_toNat_cond]; simp; omega

/-- A signed comparison of two words whose sign bits are clear. -/
theorem slt_small (x y : BitVec 32) (hx : x.toNat < 2 ^ 31) (hy : y.toNat < 2 ^ 31) :
    IntOp.cmpi .slt x y = BitVec.ofBool (decide (x.toNat < y.toNat)) := by
  simp only [IntOp.cmpi, BitVec.slt, toInt_small x hx, toInt_small y hy]
  norm_cast

/-- The other signed comparison. -/
theorem sge_small (x y : BitVec 32) (hx : x.toNat < 2 ^ 31) (hy : y.toNat < 2 ^ 31) :
    IntOp.cmpi .sge x y = BitVec.ofBool (decide (y.toNat ≤ x.toNat)) := by
  simp only [IntOp.cmpi, BitVec.sle, toInt_small x hx, toInt_small y hy]
  norm_cast

/-- Equality of words by their numbers. -/
theorem eq_small (x y : BitVec 32) : IntOp.cmpi .eq x y = BitVec.ofBool (decide (x.toNat = y.toNat)) := by
  simp only [IntOp.cmpi]
  congr 1
  by_cases h : x = y
  · simp [h]
  · have : x.toNat ≠ y.toNat := fun e => h (BitVec.eq_of_toNat_eq e)
    simp [h, this]

/-- Difference of words by their numbers. -/
theorem ne_small (x y : BitVec 32) : IntOp.cmpi .ne x y = BitVec.ofBool (decide (x.toNat ≠ y.toNat)) := by
  simp only [IntOp.cmpi]
  congr 1
  by_cases h : x = y
  · simp [h]
  · have : x.toNat ≠ y.toNat := fun e => h (BitVec.eq_of_toNat_eq e)
    simp [h, this]

/-- A selection by a decided condition. -/
theorem select_ofBool {α : Type} (b : Prop) [Decidable b] (x y : α) :
    Scalar.select (BitVec.ofBool (decide b)) x y = if b then x else y := by
  by_cases h : b <;> simp [Scalar.select, h]

/-! ## The value -/

/-- The magnitude of a half whose low fifteen bits are `M`. -/
def magVal (M : ℕ) : EReal :=
  if M < 1024 then (((M : ℝ) * (2 : ℝ) ^ (-24 : ℤ) : ℝ) : EReal)
  else if 31744 ≤ M then (if M % 1024 = 0 then ⊤ else ⊥)
  else (((1024 + (M % 1024 : ℕ) : ℝ) * (2 : ℝ) ^ ((M / 1024 : ℕ) - 25 : ℤ) : ℝ) : EReal)

/-- The value of a half from its word's number. -/
def halfVal (W : ℕ) : EReal := if 32768 ≤ W then - magVal (W % 32768) else magVal (W % 32768)

/-- A positive 32-bit float's value by its word's number. -/
theorem ofBits_f32_pos (x : BitVec 32) (hx : x.toNat < 2 ^ 31) :
    Ideal.ofBits .f32 x =
      if x.toNat / 2 ^ 23 = 255 then (if x.toNat % 2 ^ 23 = 0 then ⊤ else ⊥)
      else if x.toNat / 2 ^ 23 = 0 then (((x.toNat % 2 ^ 23 : ℕ) * (2 : ℝ) ^ (-149 : ℤ) : ℝ) : EReal)
      else (((2 ^ 23 + x.toNat % 2 ^ 23 : ℕ) * (2 : ℝ) ^ ((x.toNat / 2 ^ 23 : ℕ) - 150 : ℤ) : ℝ) : EReal) := by
  have hn : (x.extractLsb' 31 1 == 1#1) = false := by
    have h0 : x.extractLsb' 31 1 = 0#1 := by
      apply BitVec.eq_of_toNat_eq
      simp [BitVec.extractLsb'_toNat, Nat.shiftRight_eq_div_pow]
      omega
    rw [h0]; rfl
  have he : (x.extractLsb' 23 8).toNat = x.toNat / 2 ^ 23 := by
    simp [BitVec.extractLsb'_toNat, Nat.shiftRight_eq_div_pow]
    omega
  have hf : (x.extractLsb' 0 23).toNat = x.toNat % 2 ^ 23 := by
    simp [BitVec.extractLsb'_toNat]
  show Ideal.ieee 8 23 x = _
  unfold Ideal.ieee
  simp only [show 8 + 23 = 31 from rfl, hn, he, hf, Bool.false_eq_true, if_false, one_mul]
  rw [show (2 : ℕ) ^ 8 - 1 = 255 from rfl]
  by_cases h1 : x.toNat / 2 ^ 23 = 255
  · rw [if_pos h1, if_pos h1]
  · rw [if_neg h1, if_neg h1]
    by_cases h2 : x.toNat / 2 ^ 23 = 0
    · rw [if_pos h2, if_pos h2]
      rfl
    · rw [if_neg h2, if_neg h2]
      have e : ((x.toNat / 2 ^ 23 : ℕ) : ℤ) - (2 ^ (8 - 1) - 1) - (23 : ℕ) = ((x.toNat / 2 ^ 23 : ℕ) : ℤ) - 150 := by
        norm_num [sub_sub]
      rw [e]

/-- The kernel's reading of a half's magnitude from its low fifteen bits. -/
def kernelMag (mag : BitVec 32) : EReal :=
  Scalar.select (IntOp.cmpi .slt mag 1024#32)
    (((mag.toInt : ℝ) : EReal) * Ideal.ofBits .f32 0x33800000#32)
    (Scalar.select (IntOp.cmpi .sge mag 31744#32) (Ideal.ofBits .f32 (IntOp.ori (IntOp.shli .vector mag 13#32) 2139095040#32))
      (Ideal.ofBits .f32 (IntOp.addi (IntOp.shli .vector mag 13#32) 939524096#32)))

/-- The kernel's reading of a half's word. -/
def kernelHalf (w : BitVec 16) : EReal :=
  Scalar.select
    (IntOp.cmpi .ne (IntOp.shli .vector (IntOp.andi (IntOp.andi (w.signExtend 32) 65535#32) 32768#32) 16#32) 0#32)
    (Ideal.ofBits .f32 0x00000000#32 - kernelMag (IntOp.andi (IntOp.andi (w.signExtend 32) 65535#32) 32767#32))
    (kernelMag (IntOp.andi (IntOp.andi (w.signExtend 32) 65535#32) 32767#32))

/-- A word widened with its sign and masked to sixteen bits keeps its number. -/
theorem toNat_widened (w : BitVec 16) : (IntOp.andi (w.signExtend 32) 65535#32).toNat = w.toNat := by
  have hw := w.isLt
  rw [andi_signExtend_65535, BitVec.toNat_setWidth, Nat.mod_eq_of_lt (by omega)]

/-- The kernel's reading of the magnitude is its value. -/
theorem kernelMag_eq (mag : BitVec 32) (hM : mag.toNat < 32768) : kernelMag mag = magVal mag.toNat := by
  have hsh : (IntOp.shli .vector mag 13#32).toNat = mag.toNat * 2 ^ 13 := by
    rw [toNat_shli .vector mag 13#32 (by decide)]
    exact Nat.mod_eq_of_lt (by show mag.toNat * 2 ^ 13 < _; omega)
  unfold kernelMag
  rw [slt_small mag 1024#32 (by omega) (by decide), sge_small mag 31744#32 (by omega) (by decide), select_ofBool, select_ofBool,
    toInt_small mag (by omega)]
  generalize IntOp.shli .vector mag 13#32 = sh at *
  generalize mag.toNat = M at *
  show (if M < 1024 then _ else if 31744 ≤ M then _ else _) = _
  unfold magVal
  split_ifs with h1 h2 h3
  · rw [ofBits_f32_pos 0x33800000#32 (by decide)]
    norm_num
  · have : (IntOp.ori sh 2139095040#32).toNat = 255 * 2 ^ 23 := by
      show (sh ||| _ : BitVec 32).toNat = _
      rw [BitVec.toNat_or, hsh]
      have : M = 31744 := by omega
      rw [this]; rfl
    rw [ofBits_f32_pos _ (by omega), this]; norm_num
  · have : (IntOp.ori sh 2139095040#32).toNat = 255 * 2 ^ 23 + (M % 1024) * 2 ^ 13 := by
      show (sh ||| _ : BitVec 32).toNat = _
      rw [BitVec.toNat_or, hsh]
      have e : M * 2 ^ 13 = 2 ^ 23 * 31 + (M % 1024) * 2 ^ 13 := by omega
      rw [e, show (2139095040#32).toNat = 2 ^ 23 * 255 from rfl,
        Nat.two_pow_add_eq_or_of_lt (b := M % 1024 * 2 ^ 13) (by omega) 31, Nat.or_assoc, Nat.or_comm (M % 1024 * 2 ^ 13), ← Nat.or_assoc,
        show (2 ^ 23 * 31 ||| 2 ^ 23 * 255) = 2 ^ 23 * 255 from rfl, ← Nat.two_pow_add_eq_or_of_lt (by omega)]
      omega
    rw [ofBits_f32_pos _ (by omega), this, if_pos (by omega), if_neg (by omega)]
  · have : (IntOp.addi sh 939524096#32).toNat = M * 2 ^ 13 + 112 * 2 ^ 23 := by
      show (sh + _ : BitVec 32).toNat = _
      rw [BitVec.toNat_add, hsh]
      show (M * 2 ^ 13 + 939524096) % 2 ^ 32 = _
      omega
    have e1 : (M * 2 ^ 13 + 112 * 2 ^ 23) / 2 ^ 23 = M / 1024 + 112 := by omega
    have e2 : (M * 2 ^ 13 + 112 * 2 ^ 23) % 2 ^ 23 = (M % 1024) * 2 ^ 13 := by omega
    rw [ofBits_f32_pos _ (by omega), this, e1, e2, if_neg (by omega), if_neg (by omega)]
    apply congrArg Real.toEReal
    have : ((M / 1024 + 112 : ℕ) - 150 : ℤ) = ((M / 1024 : ℕ) - 25 : ℤ) + (-13 : ℤ) := by push_cast; ring
    rw [this, zpow_add₀ (by norm_num)]
    push_cast
    norm_num
    ring

/-- The kernel's reading is the value. -/
theorem kernelHalf_eq (w : BitVec 16) : kernelHalf w = halfVal w.toNat := by
  have hw := w.isLt
  have h4 := toNat_widened w
  unfold kernelHalf
  generalize IntOp.andi (w.signExtend 32) 65535#32 = v4 at *
  have hM : (IntOp.andi v4 32767#32).toNat = w.toNat % 32768 := by
    rw [toNat_and_mask v4 15 32767#32 rfl, h4]
    rfl
  have hS : (IntOp.andi v4 32768#32).toNat = w.toNat / 32768 * 32768 := by
    show (v4 &&& _ : BitVec 32).toNat = _
    rw [BitVec.toNat_and, h4, show (32768#32).toNat = 2 ^ 15 from rfl, Nat.and_two_pow]
    rw [Nat.testBit_eq_decide_div_mod_eq]
    by_cases hb : w.toNat / 2 ^ 15 % 2 = 1
    · rw [decide_eq_true hb, Bool.toNat_true, Nat.one_mul]
      omega
    · rw [decide_eq_false hb, Bool.toNat_false, Nat.zero_mul]
      omega
  rw [kernelMag_eq _ (by omega), hM, ne_small, select_ofBool, toNat_shli .vector _ 16#32 (by decide), hS, Ideal.ofBits_zero_f32]
  unfold halfVal
  have : (w.toNat / 32768 * 32768 * 2 ^ (16#32).toNat % 2 ^ 32 ≠ (0#32).toNat) ↔ 32768 ≤ w.toNat := by
    show w.toNat / 32768 * 32768 * 2 ^ 16 % 2 ^ 32 ≠ 0 ↔ _
    omega
  simp only [this, zero_sub]

/-- The reference's reading of a half's magnitude from its exponent and fraction. -/
def refMag (ex fr : BitVec 32) : EReal :=
  Scalar.select (IntOp.cmpi .eq ex 31#32)
    (Scalar.select (IntOp.cmpi .eq fr 0#32) (Ideal.ofBits .f32 0x7F800000#32) (Ideal.ofBits .f32 0x7FC00000#32))
    ((((Scalar.select (IntOp.cmpi .eq ex 0#32) fr (IntOp.addi 1024#32 fr)).toInt : ℝ) : EReal)
      * Ideal.pow (Ideal.ofBits .f32 0x40000000#32) (((IntOp.subi (IntOp.maxsi ex 1#32) 25#32).toInt : ℝ) : EReal))

/-- The reference's reading of a half's word. -/
def refHalf (w : BitVec 16) : EReal :=
  Scalar.select (IntOp.cmpi .eq (IntOp.shrsi .host (IntOp.andi (w.signExtend 32) 65535#32) 15#32) 1#32)
    (-refMag (IntOp.andi (IntOp.shrsi .host (IntOp.andi (w.signExtend 32) 65535#32) 10#32) 31#32)
      (IntOp.andi (IntOp.andi (w.signExtend 32) 65535#32) 1023#32))
    (refMag (IntOp.andi (IntOp.shrsi .host (IntOp.andi (w.signExtend 32) 65535#32) 10#32) 31#32)
      (IntOp.andi (IntOp.andi (w.signExtend 32) 65535#32) 1023#32))

/-- The power of two a half's exponent names, as an integer exponent. -/
theorem halfExponent (ex : BitVec 32) (hex : ex.toNat < 32) :
    (IntOp.subi (IntOp.maxsi ex 1#32) 25#32).toInt = (max ex.toNat 1 : ℕ) - 25 := by
  have hm : (IntOp.maxsi ex 1#32).toNat = max ex.toNat 1 := by
    unfold IntOp.maxsi
    have hs : (1#32 : BitVec 32).slt ex = decide (1 < ex.toNat) := by
      rw [BitVec.slt, toInt_small 1#32 (by decide), toInt_small ex (by omega)]
      norm_cast
    rw [hs]
    by_cases h : 1 < ex.toNat
    · simp [h]; omega
    · simp [h]; omega
  generalize IntOp.maxsi ex 1#32 = mx at *
  show (mx - 25#32 : BitVec 32).toInt = _
  rw [BitVec.toInt_sub, toInt_small mx (by omega), hm]
  show Int.bmod (_ - 25) _ = _
  rw [Int.bmod_def]
  norm_num
  omega

/-- The reference's reading of the magnitude is its value. -/
theorem refMag_eq (ex fr : BitVec 32) (M : ℕ) (hM : M < 32768) (hE : ex.toNat = M / 1024) (hF : fr.toNat = M % 1024) :
    refMag ex fr = magVal M := by
  have h2 : Ideal.ofBits .f32 0x40000000#32 = ((2 : ℝ) : EReal) := by
    rw [ofBits_f32_pos 0x40000000#32 (by decide)]; norm_num
  have hmax := halfExponent ex (by omega)
  have hp : Real.rpow 2 ((((max ex.toNat 1 : ℕ) - 25 : ℤ) : ℝ)) = (2 : ℝ) ^ ((max ex.toNat 1 : ℕ) - 25 : ℤ) :=
    Real.rpow_intCast 2 _
  unfold refMag
  rw [h2, hmax, Ideal.pow_coe_coe, hp, hE]
  simp only [eq_small, select_ofBool, hE, hF]
  show (if M / 1024 = 31 then (if M % 1024 = 0 then _ else _)
    else (((if M / 1024 = 0 then _ else _ : BitVec 32).toInt : ℝ) : EReal) * _) = _
  unfold magVal
  by_cases h1 : M < 1024
  · rw [if_neg (by omega), if_pos (by omega), if_pos h1, toInt_small fr (by omega), hF, ← EReal.coe_mul]
    have : max (M / 1024) 1 = 1 := by omega
    rw [this, Nat.mod_eq_of_lt h1]
    norm_num
  · rw [if_neg h1]
    by_cases h31 : 31744 ≤ M
    · rw [if_pos (by omega), if_pos h31, ofBits_f32_pos 0x7F800000#32 (by decide), ofBits_f32_pos 0x7FC00000#32 (by decide)]
      norm_num
    · have : (IntOp.addi 1024#32 fr).toNat = 1024 + M % 1024 := by
        show (_ + fr : BitVec 32).toNat = _
        rw [BitVec.toNat_add, hF]
        show (1024 + M % 1024) % 2 ^ 32 = _
        omega
      rw [if_neg (by omega), if_neg (by omega), if_neg h31, toInt_small _ (by omega), this, ← EReal.coe_mul]
      have : max (M / 1024) 1 = M / 1024 := by omega
      rw [this]
      push_cast
      rfl

/-- The reference's reading is the value. -/
theorem refHalf_eq (w : BitVec 16) : refHalf w = halfVal w.toNat := by
  have hw := w.isLt
  have h4 := toNat_widened w
  unfold refHalf
  generalize IntOp.andi (w.signExtend 32) 65535#32 = v4 at *
  have hE : (IntOp.andi (IntOp.shrsi .host v4 10#32) 31#32).toNat = w.toNat / 1024 % 32 := by
    rw [toNat_and_mask _ 5 31#32 rfl, toNat_shrsi .host v4 10#32 (by decide) (by omega), h4]; rfl
  have hF : (IntOp.andi v4 1023#32).toNat = w.toNat % 1024 := by
    rw [toNat_and_mask v4 10 1023#32 rfl, h4]; rfl
  have hS : (IntOp.shrsi .host v4 15#32).toNat = w.toNat / 32768 := by
    rw [toNat_shrsi .host v4 15#32 (by decide) (by omega), h4]; rfl
  rw [refMag_eq _ _ (w.toNat % 32768) (by omega) (by omega) (by omega), eq_small, select_ofBool, hS]
  unfold halfVal
  have : (w.toNat / 32768 = (1#32).toNat) ↔ 32768 ≤ w.toNat := by
    show w.toNat / 32768 = 1 ↔ _
    omega
  simp only [this]

end Cert.Q3k
-- ==== Proof.Q3k.Codes.lean ====
/-
The integers of a weight: the six-bit scale of its group less 32, and its three-bit code less 4, each from the bytes that
pack it; and the weight, code times (block value times scale), as an extended real.
-/
module

public import proofs.«01_k».proof.Proof.Q3k.Half

@[expose] public section

noncomputable section

namespace Cert.Q3k

open Idealize.ShloMosaic

/-- The scale of group `i` from its two bytes. -/
def scaleInt (i : ℕ) (lo hi : BitVec 8) : ℤ :=
  (lo.toNat / 2 ^ (4 * (i / 8)) % 16 + 16 * (hi.toNat / 2 ^ (2 * (i / 4)) % 4) : ℕ) - 32

/-- The code of slab `s`, the `j`-th of its half, from its two bytes. -/
def codeInt (j s : ℕ) (q m : BitVec 8) : ℤ :=
  (q.toNat / 2 ^ (2 * j) % 4 + 4 * (m.toNat / 2 ^ s % 2) : ℕ) - 4

/-- Weight `k` of a column from its bytes and its block's 16-bit word. -/
def weightOf (k : ℕ) (q m lo hi : BitVec 8) (d : BitVec 16) : EReal :=
  ((codeInt (k / 32 % 4) (4 * (k / 128 % 2) + k / 32 % 4) q m : ℝ) : EReal)
    * (halfVal d.toNat * ((scaleInt (k / 16 % 16) lo hi : ℝ) : EReal))

/-- Two low and four high bits joined, less 32. -/
theorem scaleWord_toInt (u : ArithUnit) (A B : BitVec 32) (hA : A.toNat < 16) (hB : B.toNat < 4) :
    (IntOp.subi (IntOp.ori A (IntOp.shli u B 4#32)) 32#32).toInt = (A.toNat + 16 * B.toNat : ℕ) - 32 := by
  have h : (IntOp.ori A (IntOp.shli u B 4#32)).toNat = A.toNat + 16 * B.toNat := by
    show (A ||| IntOp.shli u B 4#32 : BitVec 32).toNat = _
    rw [BitVec.toNat_or, toNat_shli u B 4#32 (by decide)]
    have e : B.toNat * 2 ^ (4#32).toNat % 2 ^ 32 = 2 ^ 4 * B.toNat := by
      show B.toNat * 2 ^ 4 % 2 ^ 32 = _
      omega
    rw [e, Nat.or_comm, ← Nat.two_pow_add_eq_or_of_lt (by omega)]
    omega
  generalize IntOp.ori A (IntOp.shli u B 4#32) = x at *
  show (x - 32#32 : BitVec 32).toInt = _
  rw [BitVec.toInt_sub, toInt_small x (by omega), h]
  show Int.bmod (_ - 32) _ = _
  rw [Int.bmod_def]
  norm_num
  omega

/-- A byte widened with zeros keeps its number. -/
theorem toNat_widen8 (b : BitVec 8) : (b.setWidth 32).toNat = b.toNat := by
  have := b.isLt
  rw [BitVec.toNat_setWidth, Nat.mod_eq_of_lt (by omega)]

/-- Some bits of a byte: widened, moved right and masked. -/
theorem field_toNat (u : ArithUnit) (b : BitVec 8) (n k : ℕ) (hn : n < 32) (m : BitVec 32) (hm : m.toNat = 2 ^ k - 1) :
    (IntOp.andi (IntOp.shrsi u (b.setWidth 32) (BitVec.ofNat 32 n)) m).toNat = b.toNat / 2 ^ n % 2 ^ k := by
  have hb := b.isLt
  have hn' : (BitVec.ofNat 32 n).toNat = n := by rw [BitVec.toNat_ofNat, Nat.mod_eq_of_lt (by omega)]
  rw [toNat_and_mask _ k m hm, toNat_shrsi u _ _ (by omega) (by rw [toNat_widen8]; omega), toNat_widen8, hn']

/-- The kernel's scale word. -/
theorem kernelScale_toInt (i : ℕ) (hi : i < 16) (lo h : BitVec 8) :
    (IntOp.subi
      (IntOp.ori (IntOp.andi (IntOp.shrsi .vector (lo.setWidth 32) (BitVec.ofNat 32 (4 * (i / 8)))) 15#32)
        (IntOp.shli .vector (IntOp.andi (IntOp.shrsi .vector (h.setWidth 32) (BitVec.ofNat 32 (2 * (i / 4)))) 3#32) 4#32))
      32#32).toInt = scaleInt i lo h := by
  have hA := field_toNat .vector lo (4 * (i / 8)) 4 (by omega) 15#32 rfl
  have hB := field_toNat .vector h (2 * (i / 4)) 2 (by omega) 3#32 rfl
  rw [scaleWord_toInt .vector _ _ (by rw [hA]; exact Nat.mod_lt _ (by norm_num)) (by rw [hB]; exact Nat.mod_lt _ (by norm_num)),
    hA, hB]
  rfl

/-- The reference's code word. -/
theorem refCode_toInt (A B : BitVec 32) (hA : A.toNat < 4) (hB : B.toNat < 2) :
    (IntOp.subi (IntOp.addi A (IntOp.muli 4#32 B)) 4#32).toInt = (A.toNat + 4 * B.toNat : ℕ) - 4 := by
  have h : (IntOp.addi A (IntOp.muli 4#32 B)).toNat = A.toNat + 4 * B.toNat := by
    show (A + 4#32 * B : BitVec 32).toNat = _
    rw [BitVec.toNat_add, BitVec.toNat_mul]
    show (A.toNat + 4 * B.toNat % 2 ^ 32) % 2 ^ 32 = _
    omega
  generalize IntOp.addi A (IntOp.muli 4#32 B) = x at *
  show (x - 4#32 : BitVec 32).toInt = _
  rw [BitVec.toInt_sub, toInt_small x (by omega), h]
  show Int.bmod (_ - 4) _ = _
  rw [Int.bmod_def]
  norm_num
  omega

/-! ## Codes four to a word -/

/-- The mask words moved so that the bit of slab `s` lies at bit two of each byte. -/
def maskShiftWord : ℕ → BitVec 32 → BitVec 32
  | 0, m => IntOp.shli .vector m 2#32
  | 1, m => IntOp.shli .vector m 1#32
  | s + 2, m => IntOp.shrui .vector m (BitVec.ofNat 32 s)

/-- Four codes of one slab, a byte each. -/
def codeWord (j s : ℕ) (q m : BitVec 32) : BitVec 32 :=
  IntOp.ori (IntOp.andi (IntOp.shrui .vector q (BitVec.ofNat 32 (2 * j))) 50529027#32)
    (IntOp.andi (maskShiftWord s m) 67372036#32)

/-- A moved mask word at bit two of a byte. -/
theorem maskShiftWord_bit (s : ℕ) (hs : s < 8) (m : BitVec 32) (r : ℕ) (hr : r < 4) :
    (maskShiftWord s m).getLsbD (8 * r + 2) = m.getLsbD (8 * r + s) := by
  match s, hs with
  | 0, _ =>
    show (IntOp.shli .vector m 2#32).getLsbD _ = _
    simp only [IntOp.shli]
    interval_cases r <;> simp [BitVec.getLsbD_shiftLeft]
  | 1, _ =>
    show (IntOp.shli .vector m 1#32).getLsbD _ = _
    simp only [IntOp.shli]
    interval_cases r <;> simp [BitVec.getLsbD_shiftLeft]
  | s + 2, hs =>
    show (IntOp.shrui .vector m (BitVec.ofNat 32 s)).getLsbD _ = _
    have hn' : (BitVec.ofNat 32 s).toNat = s := by rw [BitVec.toNat_ofNat, Nat.mod_eq_of_lt (by omega)]
    simp only [IntOp.shrui, hn', show s < 32 by omega, if_true]
    rw [BitVec.ushiftRight_eq', hn', BitVec.getLsbD_ushiftRight]
    congr 1
    omega

/-- The bits of a word of four codes. -/
theorem codeWord_bit (j s : ℕ) (hj : j < 4) (hs : s < 8) (q m : BitVec 32) (r t : ℕ) (hr : r < 4) (ht : t < 8) :
    (codeWord j s q m).getLsbD (8 * r + t)
      = if t < 2 then q.getLsbD (8 * r + t + 2 * j) else if t = 2 then m.getLsbD (8 * r + s) else false := by
  have hn' : (BitVec.ofNat 32 (2 * j)).toNat = 2 * j := by rw [BitVec.toNat_ofNat, Nat.mod_eq_of_lt (by omega)]
  have hq : (IntOp.shrui .vector q (BitVec.ofNat 32 (2 * j))).getLsbD (8 * r + t) = q.getLsbD (8 * r + t + 2 * j) := by
    simp only [IntOp.shrui, hn', show 2 * j < 32 by omega, if_true]
    rw [BitVec.ushiftRight_eq', hn', BitVec.getLsbD_ushiftRight]
    congr 1
    omega
  have hm := maskShiftWord_bit s hs m r hr
  have h3 : (50529027#32).getLsbD (8 * r + t) = decide (t < 2) := by
    interval_cases r <;> interval_cases t <;> rfl
  have h4 : (67372036#32).getLsbD (8 * r + t) = decide (t = 2) := by
    interval_cases r <;> interval_cases t <;> rfl
  unfold codeWord
  show ((_ &&& _ : BitVec 32) ||| (_ &&& _ : BitVec 32)).getLsbD _ = _
  rw [BitVec.getLsbD_or, BitVec.getLsbD_and, BitVec.getLsbD_and, hq, h3, h4]
  by_cases h1 : t < 2
  · have : t ≠ 2 := by omega
    simp [h1, this]
  · by_cases h2 : t = 2
    · subst h2
      simp [hm]
    · simp [h1, h2]

/-- A byte whose bits are those of a code is the code's. -/
theorem code_toInt (j s : ℕ) (hj : j < 4) (hs : s < 8) (q m c : BitVec 8)
    (hc : ∀ t, t < 8 → c.getLsbD t = if t < 2 then q.getLsbD (t + 2 * j) else if t = 2 then m.getLsbD s else false) :
    (c.toInt : ℤ) = (q.toNat / 2 ^ (2 * j) % 4 + 4 * (m.toNat / 2 ^ s % 2) : ℕ) := by
  have hcn : c.toNat = q.toNat / 2 ^ (2 * j) % 4 + 4 * (m.toNat / 2 ^ s % 2) := by
    have e : c = ((q >>> (2 * j)) &&& 3#8) ||| (((m >>> s) &&& 1#8) <<< 2) := by
      apply BitVec.eq_of_getLsbD_eq
      intro t ht
      rw [hc t ht]
      have h3 : (3#8).getLsbD t = decide (t < 2) := by interval_cases t <;> rfl
      have h1 : (1#8).getLsbD (t - 2) = decide (t ≤ 2) := by interval_cases t <;> rfl
      simp only [BitVec.getLsbD_or, BitVec.getLsbD_and, BitVec.getLsbD_shiftLeft, BitVec.getLsbD_ushiftRight, h3, h1]
      by_cases a : t < 2
      · simp [a, Nat.add_comm]
      · by_cases b : t = 2
        · subst b; simp
        · have : ¬ t ≤ 2 := by omega
          simp [a, b, this]
    rw [e, BitVec.toNat_or, BitVec.toNat_and, BitVec.toNat_shiftLeft, BitVec.toNat_and, BitVec.toNat_ushiftRight,
      BitVec.toNat_ushiftRight, Nat.shiftRight_eq_div_pow, Nat.shiftRight_eq_div_pow, Nat.shiftLeft_eq,
      show (3#8).toNat = 2 ^ 2 - 1 from rfl, show (1#8).toNat = 2 ^ 1 - 1 from rfl, Nat.and_two_pow_sub_one_eq_mod,
      Nat.and_two_pow_sub_one_eq_mod]
    generalize q.toNat / 2 ^ (2 * j) = a
    generalize m.toNat / 2 ^ s = b
    have : b % 2 ^ 1 * 2 ^ 2 % 2 ^ 8 = 2 ^ 2 * (b % 2) := by omega
    rw [this, Nat.or_comm, ← Nat.two_pow_add_eq_or_of_lt (Nat.mod_lt _ (by norm_num))]
    omega
  rw [BitVec.toInt_eq_toNat_cond, hcn]
  have h1 := Nat.mod_lt (q.toNat / 2 ^ (2 * j)) (show 0 < 4 by norm_num)
  have h2 := Nat.mod_lt (m.toNat / 2 ^ s) (show 0 < 2 by norm_num)
  rw [if_pos (by omega)]

end Cert.Q3k
-- ==== Proof.Q3k.TileValue.lean ====
/-
The payloads of a point's stores at an index, over the extended reals: a scale is its block's value times its integer, a
weight row is its codes times its group's scale.
-/
module

public import proofs.«01_k».proof.Proof.Q3k.Tile
public import proofs.«01_k».proof.Proof.Q3k.Codes
public import Idealize.ShloMosaic.Lib.ValueIdx
public import Idealize.ShloMosaic.Lib.ValueLayout
public import Idealize.ShloMosaic.Lib.Pipeline.Value
public import Idealize.ShloMosaic.Lib.Pointwise.ShapeOpsCore

@[expose] public section

set_option maxRecDepth 16384

noncomputable section

namespace Cert.Q3k

open Idealize.ShloMosaic hiding ix2 ix3 ix4
open Idealize.ShloMosaic.ValueIdx Cert.KernelIdeal Cert.KernelIdeal.Gen

/-- The block values of a tile, from their 16-bit words. -/
theorem pay2_apply (v : Vec Ideal S8x256 .i16) (i : S8x256.Idx) : k0_pay2 v i = halfVal (v i).toNat := by
  rw [← kernelHalf_eq]
  unfold k0_pay2
  rw [shapeCast_self]
  rfl

/-- A group's scale of a block: the block's value times the scale's integer. -/
theorem scaleRow_apply (i : ℕ) (hi : i < 16) (d : FVec Ideal S8x256 .f32) (lo h : Vec Ideal S1x8x256 .i8) (b : Fin 8) (l : Fin 256) :
    scaleRow i d lo h (ix2 b l)
      = d (ix2 b l) * ((scaleInt i (lo (ix3 (0 : Fin 1) b l)) (h (ix3 (0 : Fin 1) b l)) : ℝ) : EReal) := by
  have e : (scaleCode i lo h (ix2 b l)).toInt = scaleInt i (lo (ix3 (0 : Fin 1) b l)) (h (ix3 (0 : Fin 1) b l)) := by
    rw [← kernelScale_toInt i hi]
    unfold scaleCode
    rw [← shapeCast_1ab_ab_apply lo shapeCasts_S1x8x256_S8x256 b l, ← shapeCast_1ab_ab_apply h shapeCasts_S1x8x256_S8x256 b l]
    rfl
  show d (ix2 b l) * (((scaleCode i lo h (ix2 b l)).toInt : ℝ) : EReal) = _
  rw [e]

/-- The scales a group stores: each block's, in both rows of its pair. -/
theorem scalePiece_apply (i : ℕ) (d : FVec Ideal S8x256 .f32) (lo h : Vec Ideal S1x8x256 .i8) (u : Fin 1) (b : Fin 8) (e : Fin 2)
    (l : Fin 256) : scalePiece i d lo h (ix4 u b e l) = scaleRow i d lo h (ix2 b l) := by
  have key : ∀ x : S1x8x1x256.Idx, x 1 = b → x 3 = l →
      shapeCast S1x8x1x256 (shapeCast S1x8x256 (scaleRow i d lo h) shapeCasts_S8x256_S1x8x256) shapeCasts_S1x8x256_S1x8x1x256 x
        = scaleRow i d lo h (ix2 b l) := by
    intro x h1 h3
    have h0 : (x 0).val = 0 := by have := (x 0).isLt; show _ = 0; change (x 0).val < 1 at this; omega
    have h2 : (x 2).val = 0 := by have := (x 2).isLt; show _ = 0; change (x 2).val < 1 at this; omega
    rw [shapeCast_apply _ shapeCasts_S1x8x256_S1x8x1x256 x (ix3 (0 : Fin 1) b l) (by
      rw [Shape.rowMajor_val_three, Shape.rowMajor_val_four]
      show (0 * 8 + b.val) * 256 + l.val = (((x 0).val * 8 + (x 1).val) * 1 + (x 2).val) * 256 + (x 3).val
      rw [h0, h2, h1, h3]
      omega)]
    exact shapeCast_ab_1ab_apply _ _ _ _ _
  unfold scalePiece
  rw [interleaveRows_apply]
  split_ifs
  · exact key _ rfl rfl
  · exact key _ rfl rfl

/-- A repeated pair of scale rows: row `r` is the row of `r`'s parity. -/
theorem scaleRows_apply (g : Vec Ideal S1x1x2x256 .bf16) (r : Fin 16) (l : Fin 256) :
    scaleRows g (ix2 r l) = g (ix4 (0 : Fin 1) (0 : Fin 1) (⟨r.val % 2, Nat.mod_lt _ Nat.zero_lt_two⟩ : Fin 2) l) := by
  have key : ∀ (p : Fin 2) (x : S8x256.Idx), x 1 = l →
      concatenate S8x256 0 (List.replicate 8 (⟨S1x256, shapeCast S1x256 (shapeCast S1x1x256
        (rowsOfParity p S1x1x1x256 g bitcasts_S1x1x2x256_w16_S1x1x1x256_w32) shapeCasts_S1x1x1x256_S1x1x256) shapeCasts_S1x1x256_S1x256⟩ : (s : Shape) × (s.Idx → EReal)))
        concatenates_S1x256_S1x256_S1x256_S1x256_S1x256_S1x256_S1x256_S1x256_S8x256_d0 x = g (ix4 (0 : Fin 1) (0 : Fin 1) p l) := by
    intro p x hx
    rw [concatenate_replicate_apply (s₁ := S1x256) (0 : Fin S8x256.rank) 8 _ _ rfl x (ix2 (0 : Fin 1) l) (by show 0 = _ % 1; omega) (by
      intro b hb
      match b with
      | ⟨0, _⟩ => exact absurd rfl hb
      | ⟨1, _⟩ => exact congrArg Fin.val hx.symm)]
    rw [shapeCast_1ab_ab_apply, shapeCast_1abc_abc_apply]
    unfold rowsOfParity
    congr 1
    funext a
    match a with
    | ⟨0, _⟩ => rfl
    | ⟨1, _⟩ => rfl
    | ⟨2, _⟩ => exact Fin.ext (by show 2 * 0 + p.val = p.val; omega)
    | ⟨3, _⟩ => rfl
  unfold scaleRows
  rw [interleaveRows_apply]
  have hrow : S16x256.row (ix2 r l) = r.val := rfl
  rw [hrow]
  split_ifs with h
  · exact (key 0 _ rfl).trans (congrArg (fun e => g (ix4 (0 : Fin 1) (0 : Fin 1) e l)) (Fin.ext h.symm))
  · exact (key 1 _ rfl).trans (congrArg (fun e => g (ix4 (0 : Fin 1) (0 : Fin 1) e l)) (Fin.ext (by show 1 = r.val % 2; omega)))

/-- A slab's codes at a row. -/
theorem codes_apply (h j : ℕ) (hh : h < 2) (hj : j < 4) (q hm : Vec Ideal S1x32x256 .i8) (p : Fin 32) (l : Fin 256) :
    codes h j q hm (ix2 p l)
      = ((codeInt j (4 * h + j) (q (ix3 (0 : Fin 1) p l)) (hm (ix3 (0 : Fin 1) p l)) : ℝ) : EReal) := by
  have hp := p.isLt
  let W : IVec S8x256 32 := fun i => codeWord j (4 * h + j)
    (bitcast S8x256 32 (shapeCast S32x256 q shapeCasts_S1x32x256_S32x256) bitcasts_S32x256_w8_S8x256_w32 i)
    (bitcast S8x256 32 (shapeCast S32x256 hm shapeCasts_S1x32x256_S32x256) bitcasts_S32x256_w8_S8x256_w32 i)
  have hshift : ∀ (s : ℕ) (m : IVec S8x256 32) (i : S8x256.Idx), maskShift s m i = maskShiftWord s (m i) := by
    intro s m i
    match s with
    | 0 => rfl
    | 1 => rfl
    | s + 2 => rfl
  have hW : codes h j q hm (ix2 p l)
      = (((bitcast S32x256 8 W bitcasts_S8x256_w32_S32x256_w8 (ix2 p l)).toInt : ℝ) : EReal) - Ideal.ofBits .bf16 0x4080#16 := by
    have : W = ori (andi (shrui (bitcast S8x256 32 (shapeCast S32x256 q shapeCasts_S1x32x256_S32x256) bitcasts_S32x256_w8_S8x256_w32)
          (broadcast S8x256 (BitVec.ofNat 32 (2 * j)))) (broadcast S8x256 50529027#32))
        (andi (maskShift (4 * h + j)
          (bitcast S8x256 32 (shapeCast S32x256 hm shapeCasts_S1x32x256_S32x256) bitcasts_S32x256_w8_S8x256_w32))
          (broadcast S8x256 67372036#32)) := by
      funext i
      show IntOp.ori _ (IntOp.andi (maskShiftWord _ _) _) = IntOp.ori _ (IntOp.andi (maskShift _ _ i) _)
      rw [hshift]
      rfl
    rw [this]
    rfl
  have hc : (bitcast S32x256 8 W bitcasts_S8x256_w32_S32x256_w8 (ix2 p l)).toInt
      = ((q (ix3 (0 : Fin 1) p l)).toNat / 2 ^ (2 * j) % 4 + 4 * ((hm (ix3 (0 : Fin 1) p l)).toNat / 2 ^ (4 * h + j) % 2) : ℕ) := by
    apply code_toInt j (4 * h + j) hj (by omega)
    intro t ht
    have hbyte : ∀ (x : Vec Ideal S1x32x256 .i8) (n : ℕ) (hn : n < 8) (a : Fin 8) (ha : a.val = p.val / 4),
        (bitcast S8x256 32 (shapeCast S32x256 x shapeCasts_S1x32x256_S32x256) bitcasts_S32x256_w8_S8x256_w32 (ix2 a l)).getLsbD
          (8 * (p.val % 4) + n) = (x (ix3 (0 : Fin 1) p l)).getLsbD n := by
      intro x n hn a ha
      rw [bitcast_8_32_getLsbD_ix2 _ _ a l _ (by omega) p (by omega), shapeCast_1ab_ab_apply]
      congr 1
      omega
    have hsrc : (bitcast S32x256 8 W bitcasts_S8x256_w32_S32x256_w8 (ix2 p l)).getLsbD t
        = (W (ix2 (⟨p.val / 4, by omega⟩ : Fin 8) l)).getLsbD (8 * (p.val % 4) + t) := by
      rw [bitcast_getLsbD W bitcasts_S8x256_w32_S32x256_w8 (ix2 p l) t ht (by decide)]
      have hrow : S32x256.row (ix2 p l) = p.val := rfl
      simp only [hrow]
      rw [show (p.val * 8 + t) % 32 = 8 * (p.val % 4) + t by omega]
      congr 2
      funext c
      match c with
      | ⟨0, _⟩ =>
        exact Fin.ext ((bitcasts_S8x256_w32_S32x256_w8.srcIdx_row _ _ _ ⟨0, Nat.zero_lt_two⟩ rfl).trans
          (by show (p.val * 8 + t) / 32 = p.val / 4; omega))
      | ⟨1, _⟩ => exact Fin.ext (bitcasts_S8x256_w32_S32x256_w8.srcIdx_other _ _ _ ⟨1, Nat.one_lt_two⟩ (by show ¬ 1 + 2 = 2; omega))
    rw [hsrc]
    show (codeWord j (4 * h + j) _ _).getLsbD _ = _
    rw [codeWord_bit j (4 * h + j) hj (by omega) _ _ _ t (by omega) ht]
    by_cases h2 : t < 2
    · rw [if_pos h2, if_pos h2, Nat.add_assoc, hbyte q (t + 2 * j) (by omega) _ rfl]
    · rw [if_neg h2, if_neg h2]
      by_cases h3 : t = 2
      · rw [if_pos h3, if_pos h3, hbyte hm (4 * h + j) (by omega) _ rfl]
      · rw [if_neg h3, if_neg h3]
  have h4 : Ideal.ofBits .bf16 0x4080#16 = ((4 : ℝ) : EReal) := by
    simp [Ideal.ofBits, Ideal.ieee]
    rw [← EReal.coe_mul]
    norm_num
  rw [hW, hc, h4, ← EReal.coe_sub]
  apply congrArg Real.toEReal
  unfold codeInt
  push_cast
  ring

/-- Sixteen weight rows at an index. -/
theorem weightPiece_apply (h j t : ℕ) (hh : h < 2) (hj : j < 4) (ht : t < 2) (q hm : Vec Ideal S1x32x256 .i8)
    (g : Vec Ideal S1x1x2x256 .bf16) (r : Fin 16) (l : Fin 256) (p : Fin 32) (hp : p.val = 16 * t + r.val) :
    weightPiece h j t ht q hm g (ix2 r l)
      = ((codeInt j (4 * h + j) (q (ix3 (0 : Fin 1) p l)) (hm (ix3 (0 : Fin 1) p l)) : ℝ) : EReal)
        * g (ix4 (0 : Fin 1) (0 : Fin 1) (⟨r.val % 2, Nat.mod_lt _ Nat.zero_lt_two⟩ : Fin 2) l) := by
  unfold weightPiece
  rw [shapeCast_self]
  show extractStridedSlice S16x256 ![16 * t, 0] (codes h j q hm) (slices_half t ht) (ix2 r l) * scaleRows g (ix2 r l) = _
  have hsl : extractStridedSlice S16x256 ![16 * t, 0] (codes h j q hm) (slices_half t ht) (ix2 r l) = codes h j q hm (ix2 p l) := by
    refine congrArg (codes h j q hm) (funext fun a => ?_)
    match a with
    | ⟨0, _⟩ => exact Fin.ext hp.symm
    | ⟨1, _⟩ => exact Fin.ext (by show 0 + l.val = l.val; omega)
  rw [hsl, scaleRows_apply, codes_apply h j hh hj q hm p l]

end Cert.Q3k
-- ==== Proof.Q3k.Scratch.lean ====
/-
What the scratch holds once a point's stores are made, at an index: the scales of every group, then the dequantized
weights, each as a function of the point's input tiles.
-/
module

public import proofs.«01_k».proof.Proof.Q3k.TileValue
public import Idealize.ShloMosaic.Lib.Pipeline.ValueKit.Tiles

@[expose] public section

set_option maxRecDepth 16384

noncomputable section

namespace Cert.Q3k

open Idealize.ShloMosaic hiding ix2 ix3 ix4
open Idealize.ShloMosaic.ValueIdx Cert.KernelIdeal Cert.KernelIdeal.Gen

/-- A load of a whole buffer through a unit-stride rectangle, at any index with the right coordinates. -/
theorem load_apply {s : Shape} {e : EltTy} (a : Memref sig .tc .vmem s e) (ha : a.IsWhole) (x : Vec Ideal s e)
    (off size : Fin s.rank → ℕ) (inb) (y : (Rect.unit (s := s) off size inb).shape.Idx) (i : s.Idx)
    (hi : ∀ k, (i k : ℕ) = off k + y k) :
    View.readAt (Elt Ideal) a.view (Rect.unit (s := s) off size inb).toLoadRect (ha.unread x) y = x i := by
  have h := View.ld_unit_apply_of (a.view.read (Elt Ideal) (ha.unread x)) off size inb y i hi
  rw [ha.read_unread] at h
  rw [← h]
  show View.ld (a.view.read (Elt Ideal) (ha.unread x)) _ y = _
  rw [ha.read_unread]

/-- A load of the contents that a list of stores leaves, at any index with the right coordinates. -/
theorem cover_apply {s : Shape} {e : EltTy} (v : View sig .tc .vmem s e) (L : List (View.Piece (Elt Ideal) s e))
    (off size : Fin s.rank → ℕ) (inb) (y : (Rect.unit (s := s) off size inb).shape.Idx) (i : s.Idx)
    (hi : ∀ k, (i k : ℕ) = off k + y k) :
    v.readCov L (Rect.unit (s := s) off size inb).toLoadRect y
      = v.read (Elt Ideal) (v.writes (Elt Ideal) v.junk L) i :=
  View.ld_unit_apply_of (v.read (Elt Ideal) (v.writes (Elt Ideal) v.junk L)) off size inb y i hi

section Tile

variable (arg2 : Memref sig .tc .vmem S8x32x256 .i8) (harg2 : arg2.IsWhole) (arg3 : Memref sig .tc .vmem S8x64x256 .i8)
  (harg3 : arg3.IsWhole) (arg4 : Memref sig .tc .vmem S12x8x256 .i8) (harg4 : arg4.IsWhole)
  (arg5 : Memref sig .tc .vmem S8x256 .i16) (harg5 : arg5.IsWhole)
  (arg11 : Memref sig .tc .vmem S16x8x2x256 .bf16) (arg12 : Memref sig .tc .vmem S2048x256 .bf16)
  (x1 : Vec Ideal S8x32x256 .i8) (x2 : Vec Ideal S8x64x256 .i8) (x3 : Vec Ideal S12x8x256 .i8) (x4 : Vec Ideal S8x256 .i16)

/-- The scale of group `i` of block `b` of column `l`. -/
theorem scaleAt_apply (i : Fin 16) (b : Fin 8) (e : Fin 2) (l : Fin 256) :
    scaleAt arg4 harg4 arg5 harg5 x3 x4 i (ix4 (0 : Fin 1) b e l)
      = halfVal (x4 (ix2 b l)).toNat
        * ((scaleInt i.val (x3 (ix3 (⟨i.val % 8, by omega⟩ : Fin 12) b l)) (x3 (ix3 (⟨8 + i.val % 4, by omega⟩ : Fin 12) b l)) : ℝ) : EReal) := by
  unfold scaleAt
  rw [scalePiece_apply, scaleRow_apply _ i.isLt, pay2_apply,
    load_apply arg5 harg5 x4 _ _ _ _ (ix2 b l) (by intro k; fin_cases k <;> simp),
    load_apply arg4 harg4 x3 _ _ _ _ (ix3 (⟨i.val % 8, by omega⟩ : Fin 12) b l) (by intro k; fin_cases k <;> simp),
    load_apply arg4 harg4 x3 _ _ _ _ (ix3 (⟨8 + i.val % 4, by omega⟩ : Fin 12) b l) (by intro k; fin_cases k <;> simp)]

/-- The scale scratch after one matrix's scale stores, whatever was stored before, holds the group's scale. -/
theorem scales_apply (L : List (View.Piece (Elt Ideal) S16x8x2x256 .bf16)) (i : Fin 16) (b : Fin 8) (e : Fin 2) (l : Fin 256) :
    arg11.view.read (Elt Ideal) (arg11.view.writes (Elt Ideal) arg11.view.junk (scalePieces arg4 harg4 arg5 harg5 x3 x4 ++ L)) (ix4 i b e l)
      = scaleAt arg4 harg4 arg5 harg5 x3 x4 i (ix4 (0 : Fin 1) b e l) := by
  rw [View.writes_append]
  unfold scalePieces
  refine View.read_tilePieces (s := S16x8x2x256) arg11.view _ S1x8x2x256.size scaleOff scaleOff_inb (scaleAt arg4 harg4 arg5 harg5 x3 x4)
    16 le_rfl (ix4 i b e l) i i.isLt (ix4 (0 : Fin 1) b e l) (fun a => ?_) 0 fun i' hi' => ?_
  · fin_cases a <;> simp [scaleOff]
  · have : i'.val ≠ i.val := fun h => hi' (Fin.ext h)
    show i.val < i'.val ∨ i'.val + 1 ≤ i.val
    omega

/-- A dequantized weight at row `k` and column `l` of a tile. -/
def tileWeight (k : Fin 2048) (l : Fin 256) : EReal :=
  weightOf k.val
    (x2 (ix3 (⟨k.val / 256, by omega⟩ : Fin 8) (⟨32 * (k.val / 128 % 2) + k.val % 32, by omega⟩ : Fin 64) l))
    (x1 (ix3 (⟨k.val / 256, by omega⟩ : Fin 8) (⟨k.val % 32, by omega⟩ : Fin 32) l))
    (x3 (ix3 (⟨k.val / 16 % 16 % 8, by omega⟩ : Fin 12) (⟨k.val / 256, by omega⟩ : Fin 8) l))
    (x3 (ix3 (⟨8 + k.val / 16 % 16 % 4, by omega⟩ : Fin 12) (⟨k.val / 256, by omega⟩ : Fin 8) l))
    (x4 (ix2 (⟨k.val / 256, by omega⟩ : Fin 8) l))

/-- The sixteen rows of store `n` are the weights of those rows. -/
theorem weightAt_apply (L : List (View.Piece (Elt Ideal) S16x8x2x256 .bf16)) (n : Fin 128) (r : Fin 16) (k : Fin 2048)
    (hk : k.val = 16 * n.val + r.val) (l : Fin 256) :
    weightAt arg2 harg2 arg3 harg3 arg11 x1 x2 (scalePieces arg4 harg4 arg5 harg5 x3 x4 ++ L) n (ix2 r l)
      = tileWeight x1 x2 x3 x4 k l := by
  have hn := n.isLt
  have hr := r.isLt
  unfold weightAt
  rw [weightPiece_apply _ _ _ (by omega) (by omega) (by omega) _ _ _ r l (⟨k.val % 32, by omega⟩ : Fin 32) (by show k.val % 32 = _; omega),
    load_apply arg3 harg3 x2 _ _ _ _ (ix3 (⟨k.val / 256, by omega⟩ : Fin 8) (⟨32 * (k.val / 128 % 2) + k.val % 32, by omega⟩ : Fin 64) l)
      (by intro a; fin_cases a <;> simp <;> omega),
    load_apply arg2 harg2 x1 _ _ _ _ (ix3 (⟨k.val / 256, by omega⟩ : Fin 8) (⟨k.val % 32, by omega⟩ : Fin 32) l)
      (by intro a; fin_cases a <;> simp <;> omega),
    cover_apply arg11.view _ _ _ _ _ (ix4 (⟨k.val / 16 % 16, by omega⟩ : Fin 16) (⟨k.val / 256, by omega⟩ : Fin 8) (⟨r.val % 2, by omega⟩ : Fin 2) l)
      (by intro a; fin_cases a <;> simp <;> omega),
    scales_apply, scaleAt_apply]
  have e1 : n.val / 2 % 4 = k.val / 32 % 4 := by omega
  have e2 : n.val / 8 % 2 = k.val / 128 % 2 := by omega
  rw [e1, e2]
  rfl

/-- The weight scratch after one matrix's stores holds, loaded whole, the tile's weights. -/
theorem weights_apply (L : List (View.Piece (Elt Ideal) S16x8x2x256 .bf16)) (k : Fin 2048) (l : Fin 256) :
    arg12.view.readCov (weightPieces arg2 harg2 arg3 harg3 arg11 x1 x2 (scalePieces arg4 harg4 arg5 harg5 x3 x4 ++ L))
        (Rect.unit (s := S2048x256) ![0, 0] S2048x256.size inb_S2048x256_S2048x256_0_0).toLoadRect (ix2 k l)
      = tileWeight x1 x2 x3 x4 k l := by
  have hk := k.isLt
  rw [cover_apply arg12.view _ _ _ _ _ (ix2 k l) (by intro a; fin_cases a <;> simp)]
  rw [← weightAt_apply arg2 harg2 arg3 harg3 arg4 harg4 arg5 harg5 arg11 x1 x2 x3 x4 L (⟨k.val / 16, by omega⟩ : Fin 128)
    (⟨k.val % 16, by omega⟩ : Fin 16) k (by show k.val = 16 * (k.val / 16) + k.val % 16; omega) l]
  unfold weightPieces
  refine View.read_tilePieces (s := S2048x256) arg12.view _ S16x256.size weightOff weightOff_inb _
    128 le_rfl (ix2 k l) (⟨k.val / 16, by omega⟩ : Fin 128) (by show k.val / 16 < 128; omega)
    (ix2 (⟨k.val % 16, by omega⟩ : Fin 16) l) (fun a => ?_) 0 fun i' hi' => ?_
  · fin_cases a
    · show k.val = 16 * (k.val / 16) + k.val % 16
      omega
    · show l.val = 0 + l.val
      omega
  · have : i'.val ≠ k.val / 16 := fun h => hi' (Fin.ext h)
    show k.val < 16 * i'.val ∨ 16 * i'.val + 16 ≤ k.val
    omega

end Tile

end Cert.Q3k
-- ==== Proof.Q3k.Result.lean ====
/-
The result the two programs share, written once over the nine arguments: every entry is the gated product of two sums
over the 2048 activations of a row, each activation times a dequantized weight.
-/
module

public import proofs.«01_k».proof.Proof.Q3k.Codes
public import Idealize.ShloMosaic.Lib.ValueIdx
public import Idealize.ShloMosaic.Lib.Pipeline.Value

@[expose] public section

noncomputable section

namespace Cert.Q3k

open Idealize.ShloMosaic
open Idealize.ShloMosaic.ValueIdx

/-- The gated product of a gate value and an up value: `g · σ(g) · u`. -/
def gated (g u : EReal) : EReal := g * Ideal.div 1 (1 + Ideal.exp (-g)) * u

/-- The weight that joins output `n` to activation `k`, from the packed masks, codes, scales and block values. -/
def weightEntry (hm : Vec Ideal ⟨3, ![16384, 8, 32]⟩ .i8) (qs : Vec Ideal ⟨3, ![16384, 8, 64]⟩ .i8)
    (sc : Vec Ideal ⟨3, ![16384, 8, 12]⟩ .i8) (d : Vec Ideal ⟨2, ![16384, 8]⟩ .i16) (n : Fin 16384) (k : Fin 2048) : EReal :=
  weightOf k.val
    (qs (ix3 n (⟨k.val / 256, by omega⟩ : Fin 8) (⟨32 * (k.val / 128 % 2) + k.val % 32, by omega⟩ : Fin 64)))
    (hm (ix3 n (⟨k.val / 256, by omega⟩ : Fin 8) (⟨k.val % 32, by omega⟩ : Fin 32)))
    (sc (ix3 n (⟨k.val / 256, by omega⟩ : Fin 8) (⟨k.val / 16 % 16 % 8, by omega⟩ : Fin 12)))
    (sc (ix3 n (⟨k.val / 256, by omega⟩ : Fin 8) (⟨8 + k.val / 16 % 16 % 4, by omega⟩ : Fin 12)))
    (d (ix2 n (⟨k.val / 256, by omega⟩ : Fin 8)))

/-- The product of row `r` of the activations with output `n`'s weights. -/
def rowProduct (x : Vec Ideal ⟨3, ![6, 256, 2048]⟩ .bf16) (hm : Vec Ideal ⟨3, ![16384, 8, 32]⟩ .i8)
    (qs : Vec Ideal ⟨3, ![16384, 8, 64]⟩ .i8) (sc : Vec Ideal ⟨3, ![16384, 8, 12]⟩ .i8) (d : Vec Ideal ⟨2, ![16384, 8]⟩ .i16)
    (r : Fin 1536) (n : Fin 16384) : EReal :=
  ∑ k : Fin 2048, x (ix3 (⟨r.val / 256, by omega⟩ : Fin 6) (⟨r.val % 256, by omega⟩ : Fin 256) k) * weightEntry hm qs sc d n k

/-- The result array. -/
def result (x : Vec Ideal ⟨3, ![6, 256, 2048]⟩ .bf16) (hmG : Vec Ideal ⟨3, ![16384, 8, 32]⟩ .i8)
    (qsG : Vec Ideal ⟨3, ![16384, 8, 64]⟩ .i8) (scG : Vec Ideal ⟨3, ![16384, 8, 12]⟩ .i8) (dG : Vec Ideal ⟨2, ![16384, 8]⟩ .i16)
    (hmU : Vec Ideal ⟨3, ![16384, 8, 32]⟩ .i8) (qsU : Vec Ideal ⟨3, ![16384, 8, 64]⟩ .i8)
    (scU : Vec Ideal ⟨3, ![16384, 8, 12]⟩ .i8) (dU : Vec Ideal ⟨2, ![16384, 8]⟩ .i16) : Vec Ideal ⟨2, ![1536, 16384]⟩ .bf16 :=
  fun i => gated (rowProduct x hmG qsG scG dG (i 0) (i 1)) (rowProduct x hmU qsU scU dU (i 0) (i 1))

end Cert.Q3k
-- ==== Proof.Q3k.Block.lean ====
/-
What one grid point writes back, at an index: the activations' products with the two tiles of weights, gated.
-/
module

public import proofs.«01_k».proof.Proof.Q3k.Scratch
public import proofs.«01_k».proof.Proof.Q3k.Result
public import Idealize.ShloMosaic.Lib.Pipeline.ValueKit

@[expose] public section

set_option maxRecDepth 16384

noncomputable section

namespace Cert.Q3k

open Idealize.ShloMosaic hiding ix2 ix3 ix4
open Idealize.ShloMosaic.ValueIdx Cert.KernelIdeal Cert.KernelIdeal.Gen

/-- A product of the activations with a weight tile, at an index. -/
theorem product_apply (x : Vec Ideal S1536x2048 .bf16) (w : Vec Ideal S2048x256 .bf16) (r : Fin 1536) (l : Fin 256) :
    k0_pay675 x w (ix2 r l) = ∑ k : Fin 2048, x (ix2 r k) * w (ix2 k l) := by
  unfold k0_pay675 k0_pay674
  rw [shapeCast_self]
  pointwise
  rfl

/-- The stored block from the two products. -/
theorem pay1_apply (x : Vec Ideal S1536x2048 .bf16) (w w' : Vec Ideal S2048x256 .bf16) (r : Fin 1536) (l : Fin 256) :
    k0_pay1 (k0_pay675 x w) (k0_pay676 x w') (k0_pay677 x w) (Scalar.ofBits .f32 0x3F800000#32) (ix2 r l)
      = gated (∑ k : Fin 2048, x (ix2 r k) * w (ix2 k l)) (∑ k : Fin 2048, x (ix2 r k) * w' (ix2 k l)) := by
  rw [← product_apply, ← product_apply]
  show k0_pay675 x w (ix2 r l) * Ideal.div (Ideal.ofBits .f32 0x3F800000#32)
    (Ideal.ofBits .f32 0x3F800000#32 + Ideal.exp (Ideal.ofBits .f32 0x00000000#32 - k0_pay675 x w (ix2 r l))) * k0_pay675 x w' (ix2 r l) = _
  rw [Ideal.ofBits_one_f32, Ideal.ofBits_zero_f32, zero_sub]
  rfl

section Point

variable (c : Dev nD) (i : grid0.Coords)
  (arg1 : Memref sig .tc .vmem S1536x2048 .bf16) (harg1 : arg1.IsWhole)
  (arg2 : Memref sig .tc .vmem S8x32x256 .i8) (harg2 : arg2.IsWhole) (arg3 : Memref sig .tc .vmem S8x64x256 .i8)
  (harg3 : arg3.IsWhole) (arg4 : Memref sig .tc .vmem S12x8x256 .i8) (harg4 : arg4.IsWhole)
  (arg5 : Memref sig .tc .vmem S8x256 .i16) (harg5 : arg5.IsWhole)
  (arg6 : Memref sig .tc .vmem S8x32x256 .i8) (harg6 : arg6.IsWhole) (arg7 : Memref sig .tc .vmem S8x64x256 .i8)
  (harg7 : arg7.IsWhole) (arg8 : Memref sig .tc .vmem S12x8x256 .i8) (harg8 : arg8.IsWhole)
  (arg9 : Memref sig .tc .vmem S8x256 .i16) (harg9 : arg9.IsWhole)
  (arg10 : Memref sig .tc .vmem S1536x256 .bf16) (harg10 : arg10.IsWhole)
  (arg11 : Memref sig .tc .vmem S16x8x2x256 .bf16) (harg11 : arg11.IsWhole)
  (arg12 : Memref sig .tc .vmem S2048x256 .bf16) (harg12 : arg12.IsWhole)
  (arg13 : Memref sig .tc .vmem S2048x256 .bf16) (harg13 : arg13.IsWhole)
  (x0 : Vec Ideal S1536x2048 .bf16)
  (x1 : Vec Ideal S8x32x256 .i8) (x2 : Vec Ideal S8x64x256 .i8) (x3 : Vec Ideal S12x8x256 .i8) (x4 : Vec Ideal S8x256 .i16)
  (x5 : Vec Ideal S8x32x256 .i8) (x6 : Vec Ideal S8x64x256 .i8) (x7 : Vec Ideal S12x8x256 .i8) (x8 : Vec Ideal S8x256 .i16)

/-- The block a grid point leaves, from its nine input tiles: the gated product of the two sums over the tiles' rows. -/
theorem out_apply (r : Fin 1536) (l : Fin 256) :
    out0_A_9 c i arg1 harg1 arg2 harg2 arg3 harg3 arg4 harg4 arg5 harg5 arg6 harg6 arg7 harg7 arg8 harg8 arg9 harg9 arg10 harg10
        arg11 harg11 arg12 harg12 arg13 harg13 x0 x1 x2 x3 x4 x5 x6 x7 x8 (ix2 r l)
      = gated (∑ k : Fin 2048, x0 (ix2 r k) * tileWeight x1 x2 x3 x4 k l)
          (∑ k : Fin 2048, x0 (ix2 r k) * tileWeight x5 x6 x7 x8 k l) := by
  have hx : ∀ k : Fin 2048, View.readAt (Elt Ideal) arg1.view (Rect.unit (s := S1536x2048) ![0, 0] S1536x2048.size
      inb_S1536x2048_S1536x2048_0_0).toLoadRect (harg1.unread x0) (ix2 r k) = x0 (ix2 r k) := fun k =>
    load_apply arg1 harg1 x0 _ _ _ _ (ix2 r k) (by intro a; fin_cases a <;> simp)
  have hg : ∀ k : Fin 2048, kernelRun0_A.sl.v5096 c arg2 harg2 arg3 harg3 arg4 harg4 arg5 harg5 arg11 arg12 x1 x2 x3 x4 (ix2 k l)
      = tileWeight x1 x2 x3 x4 k l := fun k => by
    have h := weights_apply arg2 harg2 arg3 harg3 arg4 harg4 arg5 harg5 arg11 arg12 x1 x2 x3 x4 [] k l
    rw [List.append_nil, ← gateWeights_eq arg2 harg2 arg3 harg3 arg4 harg4 arg5 harg5 arg11 x1 x2 x3 x4 c] at h
    exact h
  have hu : ∀ k : Fin 2048, kernelRun0_A.sl.v5098 c arg4 harg4 arg5 harg5 arg6 harg6 arg7 harg7 arg8 harg8 arg9 harg9 arg11 arg13
      x3 x4 x5 x6 x7 x8 (ix2 k l) = tileWeight x5 x6 x7 x8 k l := fun k => by
    have h := weights_apply arg6 harg6 arg7 harg7 arg8 harg8 arg9 harg9 arg11 arg13 x5 x6 x7 x8 (scalePieces arg4 harg4 arg5 harg5 x3 x4) k l
    rw [← upWeights_eq arg4 harg4 arg5 harg5 arg11 x3 x4 c] at h
    exact h
  simp only [← hx, ← hg, ← hu]
  rw [← pay1_apply]
  unfold out0_A_9
  rw [View.read_writes_junk_eq_canon]
  exact congrFun (View.canon_unit_zero (S := S1536x256) (off := ![0, 0]) (funext fun a => by fin_cases a <;> rfl)
    inb_S1536x256_S1536x256_0_0 _) (ix2 r l)

end Point

end Cert.Q3k
-- ==== Proof.Q3k.KernelValue.lean ====
/-
The kernel's result array after its run: every block is what its grid point wrote, and the blocks tile the array.
-/
module

public import proofs.«01_k».proof.Proof.Q3k.Block
public import proofs.«01_k».proof.Proof.Gen.KernelIdeal.Value

@[expose] public section

set_option maxRecDepth 16384

noncomputable section

namespace Cert.Q3k

open Idealize.ShloMosaic hiding ix2 ix3 ix4
open Idealize.ShloMosaic.ValueIdx Idealize.ShloMosaic.TcCoe Cert.KernelIdeal Cert.KernelIdeal.Gen

variable (m : (ℓ : Loc nD τ sig) → Buf (Elt Ideal) ℓ) (c : Dev nD)

/-- Where each window's block lies: the activations whole, every other array at the point's columns. -/
theorem idx : ∀ t : Fin cfg0.N, win0_0.index t = ![0, 0]
    ∧ win0_1.index t = ![0, 0, t.val] ∧ win0_2.index t = ![0, 0, t.val] ∧ win0_3.index t = ![0, 0, t.val] ∧ win0_4.index t = ![0, t.val]
    ∧ win0_5.index t = ![0, 0, t.val] ∧ win0_6.index t = ![0, 0, t.val] ∧ win0_7.index t = ![0, 0, t.val] ∧ win0_8.index t = ![0, t.val]
    ∧ win0_9.index t = ![0, t.val] :=
  (by decide +kernel : ∀ t : Fin grid0.N, _)

/-- Column `l` of point `t`'s tiles. -/
def column (t : Fin cfg0.N) (l : Fin 256) : Fin 16384 := ⟨256 * t.val + l.val, by have : t.val < 64 := t.isLt; omega⟩

/-- The gate masks' block. -/
theorem gateMasks (t : Fin cfg0.N) (b : Fin 8) (p : Fin 32) (l : Fin 256) :
    iblk m c 1 t (ix3 b p l) = m ((c : Thread nD τ).loc main_arg1) (ix3 (column t l) b p) := by
  blk_simp [iblk]
  entry_read
  pointwise
  unfold column
  blk_ext [iblk, V, idx t]
  show t.val * 256 + l.val = 256 * t.val + l.val
  omega

/-- The gate codes' block. -/
theorem gateCodes (t : Fin cfg0.N) (b : Fin 8) (p : Fin 64) (l : Fin 256) :
    iblk m c 2 t (ix3 b p l) = m ((c : Thread nD τ).loc main_arg2) (ix3 (column t l) b p) := by
  blk_simp [iblk]
  entry_read
  pointwise
  unfold column
  blk_ext [iblk, V, idx t]
  show t.val * 256 + l.val = 256 * t.val + l.val
  omega

/-- The gate scales' block. -/
theorem gateScales (t : Fin cfg0.N) (q : Fin 12) (b : Fin 8) (l : Fin 256) :
    iblk m c 3 t (ix3 q b l) = m ((c : Thread nD τ).loc main_arg3) (ix3 (column t l) b q) := by
  blk_simp [iblk]
  entry_read
  pointwise
  unfold column
  blk_ext [iblk, V, idx t]
  show t.val * 256 + l.val = 256 * t.val + l.val
  omega

/-- The gate block values' block. -/
theorem gateValues (t : Fin cfg0.N) (b : Fin 8) (l : Fin 256) :
    iblk m c 4 t (ix2 b l) = m ((c : Thread nD τ).loc main_arg4) (ix2 (column t l) b) := by
  blk_simp [iblk]
  entry_read
  pointwise
  unfold column
  blk_ext [iblk, V, idx t]
  show t.val * 256 + l.val = 256 * t.val + l.val
  omega

/-- The up masks' block. -/
theorem upMasks (t : Fin cfg0.N) (b : Fin 8) (p : Fin 32) (l : Fin 256) :
    iblk m c 5 t (ix3 b p l) = m ((c : Thread nD τ).loc main_arg5) (ix3 (column t l) b p) := by
  blk_simp [iblk]
  entry_read
  pointwise
  unfold column
  blk_ext [iblk, V, idx t]
  show t.val * 256 + l.val = 256 * t.val + l.val
  omega

/-- The up codes' block. -/
theorem upCodes (t : Fin cfg0.N) (b : Fin 8) (p : Fin 64) (l : Fin 256) :
    iblk m c 6 t (ix3 b p l) = m ((c : Thread nD τ).loc main_arg6) (ix3 (column t l) b p) := by
  blk_simp [iblk]
  entry_read
  pointwise
  unfold column
  blk_ext [iblk, V, idx t]
  show t.val * 256 + l.val = 256 * t.val + l.val
  omega

/-- The up scales' block. -/
theorem upScales (t : Fin cfg0.N) (q : Fin 12) (b : Fin 8) (l : Fin 256) :
    iblk m c 7 t (ix3 q b l) = m ((c : Thread nD τ).loc main_arg7) (ix3 (column t l) b q) := by
  blk_simp [iblk]
  entry_read
  pointwise
  unfold column
  blk_ext [iblk, V, idx t]
  show t.val * 256 + l.val = 256 * t.val + l.val
  omega

/-- The up block values' block. -/
theorem upValues (t : Fin cfg0.N) (b : Fin 8) (l : Fin 256) :
    iblk m c 8 t (ix2 b l) = m ((c : Thread nD τ).loc main_arg8) (ix2 (column t l) b) := by
  blk_simp [iblk]
  entry_read
  pointwise
  unfold column
  blk_ext [iblk, V, idx t]
  show t.val * 256 + l.val = 256 * t.val + l.val
  omega

/-- The activations' block is their whole array, two leading axes read as one. -/
theorem activations (t : Fin cfg0.N) (r : Fin 1536) (k : Fin 2048) :
    iblk m c 0 t (ix2 r k) = m ((c : Thread nD τ).loc main_arg0) (ix3 (⟨r.val / 256, by omega⟩ : Fin 6) (⟨r.val % 256, by omega⟩ : Fin 256) k) := by
  blk_simp [iblk]
  entry_read
  pointwise
  blk_ext [iblk, V, idx t]

/-- The gate tile's weights are the array's weights at the tile's columns. -/
theorem gateWeight (t : Fin cfg0.N) (k : Fin 2048) (l : Fin 256) :
    tileWeight (iblk m c 1 t) (iblk m c 2 t) (iblk m c 3 t) (iblk m c 4 t) k l
      = weightEntry (m ((c : Thread nD τ).loc main_arg1)) (m ((c : Thread nD τ).loc main_arg2)) (m ((c : Thread nD τ).loc main_arg3))
        (m ((c : Thread nD τ).loc main_arg4)) (column t l) k := by
  unfold tileWeight weightEntry
  rw [gateMasks, gateCodes, gateScales, gateScales, gateValues]

/-- The up tile's weights are the array's weights at the tile's columns. -/
theorem upWeight (t : Fin cfg0.N) (k : Fin 2048) (l : Fin 256) :
    tileWeight (iblk m c 5 t) (iblk m c 6 t) (iblk m c 7 t) (iblk m c 8 t) k l
      = weightEntry (m ((c : Thread nD τ).loc main_arg5)) (m ((c : Thread nD τ).loc main_arg6)) (m ((c : Thread nD τ).loc main_arg7))
        (m ((c : Thread nD τ).loc main_arg8)) (column t l) k := by
  unfold tileWeight weightEntry
  rw [upMasks, upCodes, upScales, upScales, upValues]

/-- The kernel's result array is the shared result of its nine arguments. -/
theorem kernelArray : (dats m 0 c).arrAt 9 cfg0.N
    = result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) := by
  refine (dats m 0 c).arrAt_eq_of_covers 9 _ (by decide +kernel) fun t hf y => ?_
  blk_simp
  rw [after0_9]
  obtain ⟨r, l, rfl⟩ : ∃ (r : Fin 1536) (l : Fin 256), y = ix2 r l := ⟨y 0, y 1, ValueIdx.eq_ix2 _⟩
  have e : (win0_9.blk t).view.emb (ix2 r l) = ix2 r (column t l) := by
    unfold column
    blk_ext [idx t]
    show t.val * 256 + l.val = 256 * t.val + l.val
    omega
  rw [e]
  refine (out_apply c (grid0.coords t) _ _ _ _ _ _ _ _ _ _ _ _ _ _ _ _ _ _ _ _ _ _ _ _ _ _ _ _ _ _ _ _ _ _ _ r l).trans ?_
  unfold result rowProduct
  simp only [activations, gateWeight, upWeight]

end Cert.Q3k
-- ==== Proof.Q3k.RefTerm.lean ====
/-
The reference's composed result in terms of a few functions of one matrix's packed arguments: the block values, the
group scales, the codes and their products. The reference states them twice, for the gate and the up matrix; each is
shown to be the same function.
-/
module

public import proofs.«01_k».proof.Proof.Gen.ReferenceIdeal.Run

@[expose] public section

set_option maxRecDepth 16384

noncomputable section

namespace Cert.Q3k.Ref

open Cert.ReferenceIdeal Cert.ReferenceIdeal.Gen Cert.ReferenceIdeal.Value Idealize.ShloMosaic Idealize.ShloMosaic.TcCoe
open Idealize.ShloMosaic.StableHlo

variable {F : FTy → Type} [FloatOps F]

/-- A constant integer over a shape. -/
abbrev ints (s : Shape) (h : S_.BroadcastsInDim s ![]) (v : BitVec 32) : IVec s 32 := broadcastInDim s ![] h (constantI S_ 32 v)

/-- A constant float over the blocks. -/
abbrev floats (v : BitVec 32) : FVec F S16384x8 .f32 := broadcastInDim S16384x8 ![] bcast_S_S16384x8 (constant S_ .f32 v)

/-- The 16-bit words, widened. -/
def words (d : Vec F S16384x8 .i16) : IVec S16384x8 32 :=
  andi (extsi 32 d natLt_16_32) (ints S16384x8 bcast_S_S16384x8 65535#32)

/-- The exponent fields. -/
def exponents (d : Vec F S16384x8 .i16) : IVec S16384x8 32 :=
  andi (Host.shrsi (words d) (ints S16384x8 bcast_S_S16384x8 10#32)) (ints S16384x8 bcast_S_S16384x8 31#32)

/-- The fraction fields. -/
def fractions (d : Vec F S16384x8 .i16) : IVec S16384x8 32 := andi (words d) (ints S16384x8 bcast_S_S16384x8 1023#32)

/-- The magnitudes. -/
def magnitudes (d : Vec F S16384x8 .i16) : FVec F S16384x8 .f32 :=
  select (cmpi .eq (exponents d) (ints S16384x8 bcast_S_S16384x8 31#32))
    (id (select (cmpi .eq (fractions d) (ints S16384x8 bcast_S_S16384x8 0#32)) (floats 0x7F800000#32) (floats 0x7FC00000#32)))
    (mulf
      (sitofp .f32 (select (cmpi .eq (exponents d) (ints S16384x8 bcast_S_S16384x8 0#32)) (fractions d)
        (addi (ints S16384x8 bcast_S_S16384x8 1024#32) (fractions d))))
      (Host.powf (floats 0x40000000#32)
        (sitofp .f32 (subi (maxsi (exponents d) (ints S16384x8 bcast_S_S16384x8 1#32)) (ints S16384x8 bcast_S_S16384x8 25#32)))))

/-- The block values. -/
def blockValues (d : Vec F S16384x8 .i16) : FVec F S16384x8 .f32 :=
  select (cmpi .eq (Host.shrsi (words d) (ints S16384x8 bcast_S_S16384x8 15#32)) (ints S16384x8 bcast_S_S16384x8 1#32))
    (Host.negf (magnitudes d)) (magnitudes d)

/-- The low bits of the scales of groups `8 p` to `8 p + 7`, at bit `s` of their bytes. -/
def lowBits (sc : Vec F S16384x8x12 .i8) : IVec S16384x8x16 32 :=
  concatenate S16384x8x16 2
    [⟨S16384x8x8, (andi (extractStridedSlice S16384x8x8 ![0, 0, 0] (extui 32 sc natLt_8_32) slices_S16384x8x12_S16384x8x8_0_0_0) (ints S16384x8x8 bcast_S_S16384x8x8 15#32))⟩,
     ⟨S16384x8x8, (andi (Host.shrsi (extractStridedSlice S16384x8x8 ![0, 0, 0] (extui 32 sc natLt_8_32) slices_S16384x8x12_S16384x8x8_0_0_0) (ints S16384x8x8 bcast_S_S16384x8x8 4#32)) (ints S16384x8x8 bcast_S_S16384x8x8 15#32))⟩]
    concatenates_S16384x8x8_S16384x8x8_S16384x8x16_d2

/-- The high bits of the scales of four groups, at bit `s` of their bytes. -/
def highPart (s : BitVec 32) (sc : Vec F S16384x8x12 .i8) : IVec S16384x8x4 32 :=
  andi (Host.shrsi (extractStridedSlice S16384x8x4 ![0, 0, 8] (extui 32 sc natLt_8_32) slices_S16384x8x12_S16384x8x4_0_0_8) (ints S16384x8x4 bcast_S_S16384x8x4 s)) (ints S16384x8x4 bcast_S_S16384x8x4 3#32)

/-- The high bits of the scales of all groups. -/
def highBits (sc : Vec F S16384x8x12 .i8) : IVec S16384x8x16 32 :=
  concatenate S16384x8x16 2
    [⟨S16384x8x4, highPart (F := F) 0#32 sc⟩, ⟨S16384x8x4, highPart (F := F) 2#32 sc⟩, ⟨S16384x8x4, highPart (F := F) 4#32 sc⟩, ⟨S16384x8x4, highPart (F := F) 6#32 sc⟩]
    concatenates_S16384x8x4_S16384x8x4_S16384x8x4_S16384x8x4_S16384x8x16_d2

/-- The scales of the groups, as integers. -/
def scaleInts (sc : Vec F S16384x8x12 .i8) : IVec S16384x8x16 32 :=
  subi (ori (lowBits (F := F) sc) (Host.shli (highBits (F := F) sc) (ints S16384x8x16 bcast_S_S16384x8x16 4#32))) (ints S16384x8x16 bcast_S_S16384x8x16 32#32)

/-- The groups' scales: their block's value times their integer. -/
def groupScales (sc : Vec F S16384x8x12 .i8) (d : Vec F S16384x8 .i16) : FVec F S16384x8x16 .bf16 :=
  truncf .bf16
    (mulf (broadcastInDim S16384x8x16 ![0, 1, 2] bcast_S16384x8x1_S16384x8x16_0_1_2
      (broadcastInDim S16384x8x1 ![0, 1] bcast_S16384x8_S16384x8x1_0_1 (blockValues d))) (sitofp .f32 (scaleInts (F := F) sc)))
    bitsLt_bf16_f32

/-- The numbers 0 to 3, down a column. -/
def slabs : IVec S4x1 32 := broadcastInDim S4x1 ![0] bcast_S4_S4x1_0 (iotaInDim S4 32 0)

/-- The two low bits of every code. -/
def codeBits (qs : Vec F S16384x8x64 .i8) : IVec S16384x8x2x4x32 32 :=
  andi (Host.shrsi (broadcastInDim S16384x8x2x4x32 ![0, 1, 2, 3, 4] bcast_S16384x8x2x1x32_S16384x8x2x4x32_0_1_2_3_4
      (shapeCast _ (extui 32 qs natLt_8_32) shapeCasts_S16384x8x64_S16384x8x2x1x32))
    (broadcastInDim S16384x8x2x4x32 ![0, 1, 2, 3, 4] bcast_S1x1x1x4x1_S16384x8x2x4x32_0_1_2_3_4
      (broadcastInDim S1x1x1x4x1 ![3, 4] bcast_S4x1_S1x1x1x4x1_3_4 (muli (ints S4x1 bcast_S_S4x1 2#32) slabs))))
    (ints S16384x8x2x4x32 bcast_S_S16384x8x2x4x32 3#32)

/-- The high bit of every code. -/
def maskBits (hm : Vec F S16384x8x32 .i8) : IVec S16384x8x2x4x32 32 :=
  andi (Host.shrsi (broadcastInDim S16384x8x2x4x32 ![0, 1, 2, 3, 4] bcast_S16384x8x1x1x32_S16384x8x2x4x32_0_1_2_3_4
      (broadcastInDim S16384x8x1x1x32 ![0, 1, 4] bcast_S16384x8x32_S16384x8x1x1x32_0_1_4 (extui 32 hm natLt_8_32)))
    (broadcastInDim S16384x8x2x4x32 ![0, 1, 2, 3, 4] bcast_S1x1x2x4x1_S16384x8x2x4x32_0_1_2_3_4
      (broadcastInDim S1x1x2x4x1 ![2, 3, 4] bcast_S2x4x1_S1x1x2x4x1_2_3_4
        (addi (broadcastInDim S2x4x1 ![0, 1, 2] bcast_S2x1x1_S2x4x1_0_1_2
            (muli (ints S2x1x1 bcast_S_S2x1x1 4#32) (broadcastInDim S2x1x1 ![0] bcast_S2_S2x1x1_0 (iotaInDim S2 32 0))))
          (broadcastInDim S2x4x1 ![0, 1, 2] bcast_S1x4x1_S2x4x1_0_1_2 (broadcastInDim S1x4x1 ![1, 2] bcast_S4x1_S1x4x1_1_2 slabs))))))
    (ints S16384x8x2x4x32 bcast_S_S16384x8x2x4x32 1#32)

/-- The codes, less 4. -/
def codes (hm : Vec F S16384x8x32 .i8) (qs : Vec F S16384x8x64 .i8) : FVec F S16384x8x2x4x32 .bf16 :=
  sitofp .bf16 (subi (addi (codeBits (F := F) qs) (muli (ints S16384x8x2x4x32 bcast_S_S16384x8x2x4x32 4#32) (maskBits (F := F) hm)))
    (ints S16384x8x2x4x32 bcast_S_S16384x8x2x4x32 4#32))

/-- The weights of one matrix, by block, half, slab, half slab and place. -/
def weights (hm : Vec F S16384x8x32 .i8) (qs : Vec F S16384x8x64 .i8) (sc : Vec F S16384x8x12 .i8) (d : Vec F S16384x8 .i16) :
    FVec F S16384x8x2x4x2x16 .bf16 :=
  mulf (shapeCast _ (codes hm qs) shapeCasts_S16384x8x2x4x32_S16384x8x2x4x2x16)
    (broadcastInDim S16384x8x2x4x2x16 ![0, 1, 2, 3, 4, 5] bcast_S16384x8x2x4x2x1_S16384x8x2x4x2x16_0_1_2_3_4_5
      (shapeCast _ (groupScales sc d) shapeCasts_S16384x8x16_S16384x8x2x4x2x1))

/-- The activations times one matrix's weights. -/
def product (x : Vec F S6x256x2048 .bf16) (hm : Vec F S16384x8x32 .i8) (qs : Vec F S16384x8x64 .i8) (sc : Vec F S16384x8x12 .i8)
    (d : Vec F S16384x8 .i16) : FVec F S6x256x16384 .f32 :=
  Host.dotGeneral dot_S6x256x2048_S16384x2048_S6x256x16384_2_1_01_0_n_n none x
    (shapeCast S16384x2048 (weights hm qs sc d) shapeCasts_S16384x8x2x4x2x16_S16384x2048)

variable (V0 : Valuation τ sig (Elt F))

/-- The gate matrix's weights in the reference's run. -/
theorem gateWeights : res_main_v113 V0 = weights (V0 (Proc.devRef .tc main_arg1)) (V0 (Proc.devRef .tc main_arg2))
    (V0 (Proc.devRef .tc main_arg3)) (V0 (Proc.devRef .tc main_arg4)) := rfl

/-- The up matrix's weights in the reference's run. -/
theorem upWeights : res_main_v228 V0 = weights (V0 (Proc.devRef .tc main_arg5)) (V0 (Proc.devRef .tc main_arg6))
    (V0 (Proc.devRef .tc main_arg7)) (V0 (Proc.devRef .tc main_arg8)) := rfl

end Cert.Q3k.Ref
-- ==== Proof.Q3k.RefValue.lean ====
/-
The reference's result at an index, over the extended reals.
-/
module

public import proofs.«01_k».proof.Proof.Q3k.RefTerm
public import proofs.«01_k».proof.Proof.Q3k.Result
public import proofs.«01_k».proof.Proof.Q3k.Codes
public import Idealize.ShloMosaic.Lib.ValueIdx
public import Idealize.ShloMosaic.Lib.ValueIdxRank6
public import Idealize.ShloMosaic.Lib.Pipeline.Value
public import Idealize.ShloMosaic.Lib.Pipeline.ValueKit

@[expose] public section

set_option maxRecDepth 16384

noncomputable section

namespace Cert.Q3k.Ref

open Cert.ReferenceIdeal Cert.ReferenceIdeal.Gen Cert.ReferenceIdeal.Value Idealize.ShloMosaic.TcCoe
open Idealize.ShloMosaic hiding ix2 ix3 ix4 ix5
open Idealize.ShloMosaic.ValueIdx

/-- A block value is the reference's reading of its 16-bit word. -/
theorem blockValues_apply (d : Vec Ideal S16384x8 .i16) (i : S16384x8.Idx) : blockValues d i = halfVal (d i).toNat := by
  rw [← refHalf_eq]
  rfl

/-- The first eight scale bytes of a block. -/
theorem firstBytes_apply (sc : Vec Ideal S16384x8x12 .i8) (n : Fin 16384) (b p : Fin 8) (q : Fin 12) (hq : q.val = p.val) :
    extractStridedSlice S16384x8x8 ![0, 0, 0] (extui 32 sc natLt_8_32) slices_S16384x8x12_S16384x8x8_0_0_0 (ix3 n b p)
      = (sc (ix3 n b q)).setWidth 32 := by
  show (sc _).setWidth 32 = _
  refine congrArg (fun j => (sc j).setWidth 32) (funext fun a => Fin.ext ?_)
  fin_cases a <;> simp [hq]

/-- The last four scale bytes of a block. -/
theorem lastBytes_apply (sc : Vec Ideal S16384x8x12 .i8) (n : Fin 16384) (b : Fin 8) (p : Fin 4) (q : Fin 12) (hq : q.val = 8 + p.val) :
    extractStridedSlice S16384x8x4 ![0, 0, 8] (extui 32 sc natLt_8_32) slices_S16384x8x12_S16384x8x4_0_0_8 (ix3 n b p)
      = (sc (ix3 n b q)).setWidth 32 := by
  show (sc _).setWidth 32 = _
  refine congrArg (fun j => (sc j).setWidth 32) (funext fun a => Fin.ext ?_)
  fin_cases a <;> simp [hq]

/-- The low bits of group `i`'s scale. -/
theorem lowBits_toNat (sc : Vec Ideal S16384x8x12 .i8) (n : Fin 16384) (b : Fin 8) (i : Fin 16) (q : Fin 12) (hq : q.val = i.val % 8) :
    (lowBits (F := Ideal) sc (ix3 n b i)).toNat = (sc (ix3 n b q)).toNat / 2 ^ (4 * (i.val / 8)) % 16 := by
  have hi := i.isLt
  have hs := (sc (ix3 n b q)).isLt
  unfold lowBits
  by_cases h : i.val < 8
  · rw [concatenate_pair_apply_left (s₁ := S16384x8x8) (s₂ := S16384x8x8) 2 _ _ _ (ix3 n b i) rfl (ix3 n b (⟨i.val, h⟩ : Fin 8))
      (by intro k; fin_cases k <;> rfl)]
    show (IntOp.andi (extractStridedSlice S16384x8x8 ![0, 0, 0] (extui 32 sc natLt_8_32) slices_S16384x8x12_S16384x8x8_0_0_0 _) 15#32).toNat = _
    rw [firstBytes_apply sc n b _ q (by show q.val = i.val; omega), toNat_and_mask _ 4 15#32 rfl, toNat_widen8, show i.val / 8 = 0 by omega]
    simp
  · rw [concatenate_pair_apply_right (s₁ := S16384x8x8) (s₂ := S16384x8x8) 2 _ _ _ (ix3 n b i) rfl rfl (ix3 n b (⟨i.val - 8, by omega⟩ : Fin 8))
      (by intro k hk; fin_cases k <;> first | rfl | exact absurd rfl hk) (by show i.val - 8 + 8 = i.val; omega)]
    show (IntOp.andi (IntOp.shrsi .host (extractStridedSlice S16384x8x8 ![0, 0, 0] (extui 32 sc natLt_8_32) slices_S16384x8x12_S16384x8x8_0_0_0 _)
      (BitVec.ofNat 32 4)) 15#32).toNat = _
    rw [firstBytes_apply sc n b _ q (by show q.val = i.val - 8; omega), field_toNat .host _ 4 4 (by omega) 15#32 rfl, show i.val / 8 = 1 by omega]
    norm_num

/-- The high bits of four groups' scales. -/
theorem highPart_toNat (s : ℕ) (hs : s < 32) (sc : Vec Ideal S16384x8x12 .i8) (n : Fin 16384) (b : Fin 8) (p : Fin 4) (q : Fin 12)
    (hq : q.val = 8 + p.val) :
    (highPart (F := Ideal) (BitVec.ofNat 32 s) sc (ix3 n b p)).toNat = (sc (ix3 n b q)).toNat / 2 ^ s % 4 := by
  unfold highPart
  show (IntOp.andi (IntOp.shrsi .host (extractStridedSlice S16384x8x4 ![0, 0, 8] (extui 32 sc natLt_8_32) slices_S16384x8x12_S16384x8x4_0_0_8 _)
    (BitVec.ofNat 32 s)) 3#32).toNat = _
  rw [lastBytes_apply sc n b p q hq, field_toNat .host _ s 2 hs 3#32 rfl]
  norm_num

/-- The high bits of group `i`'s scale. -/
theorem highBits_toNat (sc : Vec Ideal S16384x8x12 .i8) (n : Fin 16384) (b : Fin 8) (i : Fin 16) (q : Fin 12) (hq : q.val = 8 + i.val % 4) :
    (highBits (F := Ideal) sc (ix3 n b i)).toNat = (sc (ix3 n b q)).toNat / 2 ^ (2 * (i.val / 4)) % 4 := by
  have hi := i.isLt
  rw [← highPart_toNat (2 * (i.val / 4)) (by omega) sc n b (⟨i.val % 4, by omega⟩ : Fin 4) q hq]
  have key : ∀ (k : ℕ) (hk : k < 4), i.val / 4 = k →
      highBits (F := Ideal) sc (ix3 n b i) = highPart (F := Ideal) (BitVec.ofNat 32 (2 * k)) sc (ix3 n b (⟨i.val % 4, by omega⟩ : Fin 4)) := by
    intro k hk hik
    unfold highBits
    refine concatenate_apply_piece 2 _ _ (ix3 n b i) k (by simpa using hk) S16384x8x4 _ ?_ rfl (4 * k) ?_ _
      (fun a ha => ?_) ?_
    · obtain rfl | rfl | rfl | rfl : k = 0 ∨ k = 1 ∨ k = 2 ∨ k = 3 := by omega
      all_goals rfl
    · obtain rfl | rfl | rfl | rfl : k = 0 ∨ k = 1 ∨ k = 2 ∨ k = 3 := by omega
      all_goals rfl
    · fin_cases a
      · rfl
      · rfl
      · exact absurd rfl ha
    · show 4 * k + i.val % 4 = i.val
      omega
  rw [key (i.val / 4) (by omega) rfl]

/-- A group's scale is its block's value times its integer. -/
theorem groupScales_apply (sc : Vec Ideal S16384x8x12 .i8) (d : Vec Ideal S16384x8 .i16) (n : Fin 16384) (b : Fin 8) (i : Fin 16)
    (q q' : Fin 12) (hq : q.val = i.val % 8) (hq' : q'.val = 8 + i.val % 4) :
    groupScales sc d (ix3 n b i)
      = halfVal (d (ix2 n b)).toNat * ((scaleInt i.val (sc (ix3 n b q)) (sc (ix3 n b q')) : ℝ) : EReal) := by
  have hA := lowBits_toNat sc n b i q hq
  have hB := highBits_toNat sc n b i q' hq'
  have e : (scaleInts (F := Ideal) sc (ix3 n b i)).toInt = scaleInt i.val (sc (ix3 n b q)) (sc (ix3 n b q')) := by
    show (IntOp.subi (IntOp.ori (lowBits (F := Ideal) sc (ix3 n b i)) (IntOp.shli .host (highBits (F := Ideal) sc (ix3 n b i)) 4#32)) 32#32).toInt = _
    rw [scaleWord_toInt .host _ _ (by rw [hA]; omega) (by rw [hB]; omega), hA, hB]
    rfl
  rw [← e, ← blockValues_apply d (ix2 n b)]
  unfold groupScales
  show blockValues d _ * _ = _
  congr 2
  funext a
  fin_cases a <;> rfl

/-- The two low bits of a code. -/
theorem codeBits_toNat (qs : Vec Ideal S16384x8x64 .i8) (n : Fin 16384) (b : Fin 8) (h : Fin 2) (j : Fin 4) (p : Fin 32) (q : Fin 64)
    (hq : q.val = 32 * h.val + p.val) :
    (codeBits (F := Ideal) qs (ix5 n b h j p)).toNat = (qs (ix3 n b q)).toNat / 2 ^ (2 * j.val) % 4 := by
  refine Eq.trans ?_ (field_toNat .host (qs (ix3 n b q)) (2 * j.val) 2 (by omega) 3#32 rfl)
  unfold codeBits slabs
  pointwise
  have hb : h.val * 32 + p.val < 64 := by omega
  obtain rfl : q = (⟨h.val * 32 + p.val, hb⟩ : Fin 64) := Fin.ext (by show q.val = h.val * 32 + p.val; omega)
  have e : IntOp.muli 2#32 (BitVec.ofNat 32 j.val) = BitVec.ofNat 32 (2 * j.val) := (BitVec.ofNat_mul 2 j.val).symm
  exact congrArg (fun s => (IntOp.andi (IntOp.shrsi .host ((qs (ix3 n b (⟨h.val * 32 + p.val, hb⟩ : Fin 64))).setWidth 32) s) 3#32).toNat) e

/-- The high bit of a code. -/
theorem maskBits_toNat (hm : Vec Ideal S16384x8x32 .i8) (n : Fin 16384) (b : Fin 8) (h : Fin 2) (j : Fin 4) (p : Fin 32) :
    (maskBits (F := Ideal) hm (ix5 n b h j p)).toNat = (hm (ix3 n b p)).toNat / 2 ^ (4 * h.val + j.val) % 2 := by
  refine Eq.trans ?_ (field_toNat .host (hm (ix3 n b p)) (4 * h.val + j.val) 1 (by omega) 1#32 rfl)
  unfold maskBits slabs
  pointwise
  have e : IntOp.addi (IntOp.muli 4#32 (BitVec.ofNat 32 h.val)) (BitVec.ofNat 32 j.val) = BitVec.ofNat 32 (4 * h.val + j.val) := by
    rw [BitVec.ofNat_add, BitVec.ofNat_mul]
    rfl
  exact congrArg (fun s => (IntOp.andi (IntOp.shrsi .host ((hm (ix3 n b p)).setWidth 32) s) 1#32).toNat) e

/-- A code, less 4. -/
theorem codes_apply (hm : Vec Ideal S16384x8x32 .i8) (qs : Vec Ideal S16384x8x64 .i8) (n : Fin 16384) (b : Fin 8) (h : Fin 2) (j : Fin 4)
    (p : Fin 32) (q : Fin 64) (hq : q.val = 32 * h.val + p.val) :
    codes hm qs (ix5 n b h j p) = ((codeInt j.val (4 * h.val + j.val) (qs (ix3 n b q)) (hm (ix3 n b p)) : ℝ) : EReal) := by
  have hA := codeBits_toNat qs n b h j p q hq
  have hB := maskBits_toNat hm n b h j p
  have e := refCode_toInt (codeBits (F := Ideal) qs (ix5 n b h j p)) (maskBits (F := Ideal) hm (ix5 n b h j p))
    (by rw [hA]; omega) (by rw [hB]; omega)
  rw [hA, hB] at e
  show (((IntOp.subi (IntOp.addi (codeBits (F := Ideal) qs (ix5 n b h j p)) (IntOp.muli 4#32 (maskBits (F := Ideal) hm (ix5 n b h j p)))) 4#32).toInt : ℝ) : EReal) = _
  rw [e]
  rfl

/-- A weight of the reference, at its output and its activation. -/
theorem weights_apply (hm : Vec Ideal S16384x8x32 .i8) (qs : Vec Ideal S16384x8x64 .i8) (sc : Vec Ideal S16384x8x12 .i8)
    (d : Vec Ideal S16384x8 .i16) (n : Fin 16384) (k : Fin 2048) :
    shapeCast S16384x2048 (weights hm qs sc d) shapeCasts_S16384x8x2x4x2x16_S16384x2048 (ix2 n k) = weightEntry hm qs sc d n k := by
  have hk := k.isLt
  unfold weights
  pointwise
  refine (congrArg₂ (· * ·)
    (codes_apply hm qs n (⟨k.val / 256, by omega⟩ : Fin 8) (⟨k.val / 128 % 2, by omega⟩ : Fin 2) (⟨k.val / 32 % 4, by omega⟩ : Fin 4)
      (⟨k.val / 16 % 2 * 16 + k.val % 16, by omega⟩ : Fin 32) (⟨32 * (k.val / 128 % 2) + k.val % 32, by omega⟩ : Fin 64)
      (by show 32 * (k.val / 128 % 2) + k.val % 32 = 32 * (k.val / 128 % 2) + (k.val / 16 % 2 * 16 + k.val % 16); omega))
    (groupScales_apply sc d n (⟨k.val / 256, by omega⟩ : Fin 8)
      (⟨k.val / 128 % 2 * 8 + k.val / 32 % 4 * 2 + k.val / 16 % 2, by omega⟩ : Fin 16) (⟨k.val / 16 % 16 % 8, by omega⟩ : Fin 12)
      (⟨8 + k.val / 16 % 16 % 4, by omega⟩ : Fin 12)
      (by show k.val / 16 % 16 % 8 = (k.val / 128 % 2 * 8 + k.val / 32 % 4 * 2 + k.val / 16 % 2) % 8; omega)
      (by show 8 + k.val / 16 % 16 % 4 = 8 + (k.val / 128 % 2 * 8 + k.val / 32 % 4 * 2 + k.val / 16 % 2) % 4; omega))).trans ?_
  have e1 : k.val / 16 % 2 * 16 + k.val % 16 = k.val % 32 := by omega
  have e2 : k.val / 128 % 2 * 8 + k.val / 32 % 4 * 2 + k.val / 16 % 2 = k.val / 16 % 16 := by omega
  unfold weightEntry weightOf
  simp only [e1, e2]

/-- The reference's product at an index. -/
theorem product_apply (x : Vec Ideal S6x256x2048 .bf16) (hm : Vec Ideal S16384x8x32 .i8) (qs : Vec Ideal S16384x8x64 .i8)
    (sc : Vec Ideal S16384x8x12 .i8) (d : Vec Ideal S16384x8 .i16) (n : Fin 16384) (r : Fin 1536) :
    product x hm qs sc d (ix3 (⟨r.val / 256, by omega⟩ : Fin 6) (⟨r.val % 256, by omega⟩ : Fin 256) n) = rowProduct x hm qs sc d r n := by
  unfold product rowProduct
  simp only [← weights_apply]
  generalize shapeCast S16384x2048 (weights hm qs sc d) shapeCasts_S16384x8x2x4x2x16_S16384x2048 = w
  pointwise
  rfl

/-- The reference's result array is the shared result of its nine arguments. -/
theorem result_eq (x : Vec Ideal S6x256x2048 .bf16) (hmG : Vec Ideal S16384x8x32 .i8) (qsG : Vec Ideal S16384x8x64 .i8)
    (scG : Vec Ideal S16384x8x12 .i8) (dG : Vec Ideal S16384x8 .i16) (hmU : Vec Ideal S16384x8x32 .i8) (qsU : Vec Ideal S16384x8x64 .i8)
    (scU : Vec Ideal S16384x8x12 .i8) (dU : Vec Ideal S16384x8 .i16) :
    shapeCast S1536x16384
        (truncf .bf16
          (mulf
            (mulf (product x hmG qsG scG dG)
              (Host.divf (broadcastInDim S6x256x16384 ![] bcast_S_S6x256x16384 (constant S_ .f32 0x3F800000#32))
                (addf (broadcastInDim S6x256x16384 ![] bcast_S_S6x256x16384 (constant S_ .f32 0x3F800000#32))
                  (Host.exp (Host.negf (product x hmG qsG scG dG))))))
            (product x hmU qsU scU dU))
          bitsLt_bf16_f32) shapeCasts_S6x256x16384_S1536x16384
      = result x hmG qsG scG dG hmU qsU scU dU := by
  funext i
  obtain ⟨r, n, rfl⟩ : ∃ (r : Fin 1536) (n : Fin 16384), i = ix2 r n := ⟨i 0, i 1, ValueIdx.eq_ix2 _⟩
  show _ = gated (rowProduct x hmG qsG scG dG r n) (rowProduct x hmU qsU scU dU r n)
  rw [← product_apply, ← product_apply]
  generalize product x hmG qsG scG dG = g
  generalize product x hmU qsU scU dU = u
  unfold gated
  rw [← Ideal.ofBits_one_f32]
  pointwise
  rfl

end Cert.Q3k.Ref
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Q3k.KernelValue
public import proofs.«01_k».proof.Proof.Q3k.RefValue
public import Idealize.ShloMosaic.Adequacy
public import Idealize.ShloMosaic.Init
public import Idealize.ShloMosaic.Lib.Bf16Pair
public import Idealize.ShloMosaic.Lib.Bf16PairInverse

@[expose] public section

noncomputable section

namespace Cert.Proof

open Idealize.ShloMosaic Idealize.SL.Sem

/-- The reference terminates from any memory with zero counters, nothing faults, its arguments end unchanged, and — it
    has no semaphores — every counter ends at zero. -/
theorem frame_reference : Cert.quiescent_ReferenceIdeal := fun m g _ =>
  (θ_run Cert.ReferenceIdeal.defs _ _).mono (fun r h => ⟨fun c => (h c).2,
      sem_eq_zero_of_no_sems (by decide) r.2⟩)
    (Cert.ReferenceIdeal.Value.run (F := Ideal) m g)

/-- The rewrites that make the kernel its idealization: the scratch of 32-bit words read as one of bfloat16 pairs, the
    words packed out of two equal values, and the rows of words loaded, stored and taken as twice as many bfloat16 rows. -/
theorem preserves : Cert.preserves_Kernel_KernelIdeal :=
  ⟨IdealRules.bf16_pair.bufferStatement _ _, IdealRules.bf16_pair.packStatement _,
    IdealRules.bf16_pair.statement _ _, IdealRules.bf16_pair.statement _ _, IdealRules.bf16_pair.statement _ _⟩

/-- From memories agreeing on the nine arguments the idealized kernel and the reference both run and end with the same
    result array, the gated product `Cert.Q3k.result` of those arguments, and with their arguments unchanged. -/
theorem algebraic : Cert.algebraic_KernelIdeal_ReferenceIdeal := by
  intro m g m' g' _ hagree
  refine ⟨fun c => Cert.Q3k.result
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.Q3k.kernelArray m c), (h c).2⟩)
      (Cert.KernelIdeal.Value.run_blocks (F := Ideal) m g)
  · refine (θ_run Cert.ReferenceIdeal.defs _ _).mono (fun _ h c => ⟨(h c).1.trans ?_, (h c).2⟩)
      (Cert.ReferenceIdeal.Value.run (F := Ideal) m' g')
    obtain ⟨h0, h1, h2, h3, h4, h5, h6, h7, h8⟩ := hagree c
    beta_reduce
    rw [← h0, ← h1, ← h2, ← h3, ← h4, ← h5, ← h6, ← h7, ← h8]
    exact Cert.Q3k.Ref.result_eq _ _ _ _ _ _ _ _ _

/-- `Cert.Claim` (Defs.lean): the five claims, behind the witnesses of the three programs' stated facts. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g,
    frame_reference, preserves, algebraic⟩

end Cert.Proof

end
